-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x3584 : Shape := ⟨3, ![6, 1536, 3584]⟩
abbrev S1792x2x18944 : Shape := ⟨3, ![1792, 2, 18944]⟩
abbrev S28x2x18944 : Shape := ⟨3, ![28, 2, 18944]⟩
abbrev S2x1792x18944 : Shape := ⟨3, ![2, 1792, 18944]⟩
abbrev S2x28x18944 : Shape := ⟨3, ![2, 28, 18944]⟩
abbrev S6x1536x18944 : Shape := ⟨3, ![6, 1536, 18944]⟩
abbrev S6x1536x9472 : Shape := ⟨3, ![6, 1536, 9472]⟩
abbrev S6x37x4x1536 : Shape := ⟨4, ![6, 37, 4, 1536]⟩
abbrev S1x1536x3584 : Shape := ⟨3, ![1, 1536, 3584]⟩
abbrev S2x1792x512 : Shape := ⟨3, ![2, 1792, 512]⟩
abbrev S2x28x512 : Shape := ⟨3, ![2, 28, 512]⟩
abbrev S1x1536x512 : Shape := ⟨3, ![1, 1536, 512]⟩
abbrev S1x1536x256 : Shape := ⟨3, ![1, 1536, 256]⟩
abbrev S1x1x4x1536 : Shape := ⟨4, ![1, 1, 4, 1536]⟩
abbrev S3584x512 : Shape := ⟨2, ![3584, 512]⟩
abbrev S512x512 : Shape := ⟨2, ![512, 512]⟩
abbrev S1x1792x512 : Shape := ⟨3, ![1, 1792, 512]⟩
abbrev S1792x512 : Shape := ⟨2, ![1792, 512]⟩
abbrev S64x128 : Shape := ⟨2, ![64, 128]⟩
abbrev S64x1x128 : Shape := ⟨3, ![64, 1, 128]⟩
abbrev S64x2x128 : Shape := ⟨3, ![64, 2, 128]⟩
abbrev S128x128 : Shape := ⟨2, ![128, 128]⟩
abbrev S1x28x512 : Shape := ⟨3, ![1, 28, 512]⟩
abbrev S28x512 : Shape := ⟨2, ![28, 512]⟩
abbrev S1x128 : Shape := ⟨2, ![1, 128]⟩
abbrev S32x128 : Shape := ⟨2, ![32, 128]⟩
abbrev S1x512x3584 : Shape := ⟨3, ![1, 512, 3584]⟩
abbrev S512x3584 : Shape := ⟨2, ![512, 3584]⟩
abbrev S1x32x128 : Shape := ⟨3, ![1, 32, 128]⟩
abbrev S32 : Shape := ⟨1, ![32]⟩
abbrev S32x1 : Shape := ⟨2, ![32, 1]⟩
abbrev S8x128 : Shape := ⟨2, ![8, 128]⟩
abbrev S8x128x1 : Shape := ⟨3, ![8, 128, 1]⟩
abbrev S512x128 : Shape := ⟨2, ![512, 128]⟩
abbrev S128x512 : Shape := ⟨2, ![128, 512]⟩
abbrev S4x512 : Shape := ⟨2, ![4, 512]⟩
abbrev S1x1x4x512 : Shape := ⟨4, ![1, 1, 4, 512]⟩
abbrev S6x148x1536 : Shape := ⟨3, ![6, 148, 1536]⟩
abbrev S6x1536x148 : Shape := ⟨3, ![6, 1536, 148]⟩

abbrev nBuf : Space → Nat
  | .hbm => 15
  | .vmem => 18
  | .smem => 0
  | _ => 0

abbrev bufTy : (tb : Table) → Fin (tcTables nBuf tb) → BufTy
  | .hbm, ⟨0, _⟩ => ⟨S6x1536x3584, .bf16⟩
  | .hbm, ⟨1, _⟩ => ⟨S1792x2x18944, .i8⟩
  | .hbm, ⟨2, _⟩ => ⟨S28x2x18944, .f32⟩
  | .hbm, ⟨3, _⟩ => ⟨S2x1792x18944, .i8⟩
  | .hbm, ⟨4, _⟩ => ⟨S2x28x18944, .f32⟩
  | .hbm, ⟨5, _⟩ => ⟨S6x1536x18944, .bf16⟩
  | .hbm, ⟨6, _⟩ => ⟨S6x1536x9472, .i8⟩
  | .hbm, ⟨7, _⟩ => ⟨S6x37x4x1536, .f32⟩
  | .hbm, ⟨8, _⟩ => ⟨S6x37x4x1536, .f32⟩
  | .hbm, ⟨9, _⟩ => ⟨S6x148x1536, .f32⟩
  | .hbm, ⟨10, _⟩ => ⟨S6x1536x148, .f32⟩
  | .hbm, ⟨11, _⟩ => ⟨S6x148x1536, .f32⟩
  | .hbm, ⟨12, _⟩ => ⟨S6x1536x148, .f32⟩
  | .hbm, ⟨13, _⟩ => ⟨S6x1536x148, .i32⟩
  | .hbm, ⟨14, _⟩ => ⟨S6x1536x148, .i8⟩
  | .local _ .vmem, ⟨0, _⟩ => ⟨S1x1536x3584, .bf16⟩
  | .local _ .vmem, ⟨1, _⟩ => ⟨S1x1536x3584, .bf16⟩
  | .local _ .vmem, ⟨2, _⟩ => ⟨S2x1792x512, .i8⟩
  | .local _ .vmem, ⟨3, _⟩ => ⟨S2x1792x512, .i8⟩
  | .local _ .vmem, ⟨4, _⟩ => ⟨S2x28x512, .f32⟩
  | .local _ .vmem, ⟨5, _⟩ => ⟨S2x28x512, .f32⟩
  | .local _ .vmem, ⟨6, _⟩ => ⟨S1x1536x512, .bf16⟩
  | .local _ .vmem, ⟨7, _⟩ => ⟨S1x1536x512, .bf16⟩
  | .local _ .vmem, ⟨8, _⟩ => ⟨S1x1536x256, .i8⟩
  | .local _ .vmem, ⟨9, _⟩ => ⟨S1x1536x256, .i8⟩
  | .local _ .vmem, ⟨10, _⟩ => ⟨S1x1x4x1536, .f32⟩
  | .local _ .vmem, ⟨11, _⟩ => ⟨S1x1x4x1536, .f32⟩
  | .local _ .vmem, ⟨12, _⟩ => ⟨S1x1x4x1536, .f32⟩
  | .local _ .vmem, ⟨13, _⟩ => ⟨S1x1x4x1536, .f32⟩
  | .local _ .vmem, ⟨14, _⟩ => ⟨S3584x512, .bf16⟩
  | .local _ .vmem, ⟨15, _⟩ => ⟨S3584x512, .bf16⟩
  | .local _ .vmem, ⟨16, _⟩ => ⟨S512x512, .f32⟩
  | .local _ .vmem, ⟨17, _⟩ => ⟨S512x512, .f32⟩
  | _, _ => ⟨S6x1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 37], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1536x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x28x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S6x1536x3584 : Shape := ⟨3, ![6, 1536, 3584]⟩
abbrev S1792x2x18944 : Shape := ⟨3, ![1792, 2, 18944]⟩
abbrev S28x2x18944 : Shape := ⟨3, ![28, 2, 18944]⟩
abbrev S6x1536x1792x2 : Shape := ⟨4, ![6, 1536, 1792, 2]⟩
abbrev S6x1536x1792x1 : Shape := ⟨4, ![6, 1536, 1792, 1]⟩
abbrev S6x1536x1792 : Shape := ⟨3, ![6, 1536, 1792]⟩
abbrev S1792x1x18944 : Shape := ⟨3, ![1792, 1, 18944]⟩
abbrev S1792x18944 : Shape := ⟨2, ![1792, 18944]⟩
abbrev S28x1x18944 : Shape := ⟨3, ![28, 1, 18944]⟩
abbrev S28x18944 : Shape := ⟨2, ![28, 18944]⟩
abbrev S_ : Shape := ⟨0, ![]⟩
abbrev S28x64x18944 : Shape := ⟨3, ![28, 64, 18944]⟩
abbrev S6x1536x18944 : Shape := ⟨3, ![6, 1536, 18944]⟩
abbrev S6x1536x148x128 : Shape := ⟨4, ![6, 1536, 148, 128]⟩
abbrev S6x1536x148 : Shape := ⟨3, ![6, 1536, 148]⟩
abbrev S6x1536x148x1 : Shape := ⟨4, ![6, 1536, 148, 1]⟩
abbrev S6x1536x9472 : Shape := ⟨3, ![6, 1536, 9472]⟩

abbrev nBuf : Space → Nat
  | .hbm => 149
  | .vmem => 0
  | .smem => 0
  | _ => 0

abbrev hbmTy0_0 (i : Nat) : BufTy := match i % 128 with
  | 0 => ⟨S6x1536x3584, .bf16⟩
  | 1 => ⟨S1792x2x18944, .i8⟩
  | 2 => ⟨S28x2x18944, .f32⟩
  | 3 => ⟨S6x1536x1792x2, .bf16⟩
  | 4 => ⟨S6x1536x1792x1, .bf16⟩
  | 5 => ⟨S6x1536x1792, .bf16⟩
  | 6 => ⟨S6x1536x1792x1, .bf16⟩
  | 7 => ⟨S6x1536x1792, .bf16⟩
  | 8 => ⟨S1792x1x18944, .i8⟩
  | 9 => ⟨S1792x18944, .i8⟩
  | 10 => ⟨S1792x18944, .i32⟩
  | 11 => ⟨S28x1x18944, .f32⟩
  | 12 => ⟨S28x18944, .f32⟩
  | 13 => ⟨S28x18944, .bf16⟩
  | 14 => ⟨S28x1x18944, .bf16⟩
  | 15 => ⟨S_, .i32⟩
  | 16 => ⟨S1792x18944, .i32⟩
  | 17 => ⟨S1792x18944, .i32⟩
  | 18 => ⟨S_, .i32⟩
  | 19 => ⟨S1792x18944, .i32⟩
  | 20 => ⟨S1792x18944, .i1⟩
  | 21 => ⟨S_, .i32⟩
  | 22 => ⟨S1792x18944, .i32⟩
  | 23 => ⟨S1792x18944, .i32⟩
  | 24 => ⟨S1792x18944, .i32⟩
  | 25 => ⟨S1792x18944, .bf16⟩
  | 26 => ⟨S28x64x18944, .bf16⟩
  | 27 => ⟨S28x64x18944, .bf16⟩
  | 28 => ⟨S28x64x18944, .bf16⟩
  | 29 => ⟨S1792x18944, .bf16⟩
  | 30 => ⟨S_, .i32⟩
  | 31 => ⟨S1792x18944, .i32⟩
  | 32 => ⟨S1792x18944, .i32⟩
  | 33 => ⟨S_, .i32⟩
  | 34 => ⟨S1792x18944, .i32⟩
  | 35 => ⟨S1792x18944, .i1⟩
  | 36 => ⟨S_, .i32⟩
  | 37 => ⟨S1792x18944, .i32⟩
  | 38 => ⟨S1792x18944, .i32⟩
  | 39 => ⟨S1792x18944, .i32⟩
  | 40 => ⟨S1792x18944, .bf16⟩
  | 41 => ⟨S28x64x18944, .bf16⟩
  | 42 => ⟨S28x64x18944, .bf16⟩
  | 43 => ⟨S28x64x18944, .bf16⟩
  | 44 => ⟨S1792x18944, .bf16⟩
  | 45 => ⟨S1792x1x18944, .i8⟩
  | 46 => ⟨S1792x18944, .i8⟩
  | 47 => ⟨S1792x18944, .i32⟩
  | 48 => ⟨S28x1x18944, .f32⟩
  | 49 => ⟨S28x18944, .f32⟩
  | 50 => ⟨S28x18944, .bf16⟩
  | 51 => ⟨S28x1x18944, .bf16⟩
  | 52 => ⟨S_, .i32⟩
  | 53 => ⟨S1792x18944, .i32⟩
  | 54 => ⟨S1792x18944, .i32⟩
  | 55 => ⟨S_, .i32⟩
  | 56 => ⟨S1792x18944, .i32⟩
  | 57 => ⟨S1792x18944, .i1⟩
  | 58 => ⟨S_, .i32⟩
  | 59 => ⟨S1792x18944, .i32⟩
  | 60 => ⟨S1792x18944, .i32⟩
  | 61 => ⟨S1792x18944, .i32⟩
  | 62 => ⟨S1792x18944, .bf16⟩
  | 63 => ⟨S28x64x18944, .bf16⟩
  | 64 => ⟨S28x64x18944, .bf16⟩
  | 65 => ⟨S28x64x18944, .bf16⟩
  | 66 => ⟨S1792x18944, .bf16⟩
  | 67 => ⟨S_, .i32⟩
  | 68 => ⟨S1792x18944, .i32⟩
  | 69 => ⟨S1792x18944, .i32⟩
  | 70 => ⟨S_, .i32⟩
  | 71 => ⟨S1792x18944, .i32⟩
  | 72 => ⟨S1792x18944, .i1⟩
  | 73 => ⟨S_, .i32⟩
  | 74 => ⟨S1792x18944, .i32⟩
  | 75 => ⟨S1792x18944, .i32⟩
  | 76 => ⟨S1792x18944, .i32⟩
  | 77 => ⟨S1792x18944, .bf16⟩
  | 78 => ⟨S28x64x18944, .bf16⟩
  | 79 => ⟨S28x64x18944, .bf16⟩
  | 80 => ⟨S28x64x18944, .bf16⟩
  | 81 => ⟨S1792x18944, .bf16⟩
  | 82 => ⟨S6x1536x18944, .f32⟩
  | 83 => ⟨S6x1536x18944, .f32⟩
  | 84 => ⟨S6x1536x18944, .f32⟩
  | 85 => ⟨S6x1536x18944, .f32⟩
  | 86 => ⟨S6x1536x18944, .f32⟩
  | 87 => ⟨S6x1536x18944, .f32⟩
  | 88 => ⟨S6x1536x18944, .f32⟩
  | 89 => ⟨S6x1536x18944, .f32⟩
  | 90 => ⟨S_, .f32⟩
  | 91 => ⟨S6x1536x18944, .f32⟩
  | 92 => ⟨S6x1536x18944, .f32⟩
  | 93 => ⟨S_, .f32⟩
  | 94 => ⟨S6x1536x18944, .f32⟩
  | 95 => ⟨S6x1536x18944, .f32⟩
  | 96 => ⟨S6x1536x18944, .f32⟩
  | 97 => ⟨S6x1536x18944, .f32⟩
  | 98 => ⟨S6x1536x18944, .bf16⟩
  | 99 => ⟨S6x1536x18944, .f32⟩
  | 100 => ⟨S6x1536x148x128, .f32⟩
  | 101 => ⟨S_, .f32⟩
  | 102 => ⟨S6x1536x148, .f32⟩
  | 103 => ⟨S_, .f32⟩
  | 104 => ⟨S6x1536x148, .f32⟩
  | 105 => ⟨S6x1536x148, .f32⟩
  | 106 => ⟨S_, .f32⟩
  | 107 => ⟨S6x1536x148, .f32⟩
  | 108 => ⟨S_, .f32⟩
  | 109 => ⟨S6x1536x148, .f32⟩
  | 110 => ⟨S6x1536x148, .f32⟩
  | 111 => ⟨S6x1536x148, .i1⟩
  | 112 => ⟨S6x1536x148, .f32⟩
  | 113 => ⟨S_, .f32⟩
  | 114 => ⟨S6x1536x148, .f32⟩
  | 115 => ⟨S6x1536x148, .f32⟩
  | 116 => ⟨S_, .f32⟩
  | 117 => ⟨S_, .f32⟩
  | 118 => ⟨S6x1536x148, .f32⟩
  | 119 => ⟨S6x1536x148, .f32⟩
  | 120 => ⟨S6x1536x148, .f32⟩
  | 121 => ⟨S6x1536x148, .f32⟩
  | 122 => ⟨S6x1536x148, .f32⟩
  | 123 => ⟨S6x1536x148x1, .f32⟩
  | 124 => ⟨S6x1536x148x128, .f32⟩
  | 125 => ⟨S6x1536x148x128, .f32⟩
  | 126 => ⟨S6x1536x148x128, .f32⟩
  | 127 => ⟨S6x1536x148x1, .f32⟩
  | _ => ⟨S6x1536x3584, .bf16⟩

abbrev hbmTy0_1 (i : Nat) : BufTy := match i % 128 with
  | 0 => ⟨S6x1536x148x128, .f32⟩
  | 1 => ⟨S6x1536x148x128, .f32⟩
  | 2 => ⟨S_, .i32⟩
  | 3 => ⟨S_, .i32⟩
  | 4 => ⟨S_, .f32⟩
  | 5 => ⟨S6x1536x148x128, .f32⟩
  | 6 => ⟨S6x1536x148x128, .f32⟩
  | 7 => ⟨S_, .f32⟩
  | 8 => ⟨S6x1536x148x128, .f32⟩
  | 9 => ⟨S6x1536x148x128, .f32⟩
  | 10 => ⟨S6x1536x148x128, .i32⟩
  | 11 => ⟨S6x1536x18944, .i32⟩
  | 12 => ⟨S6x1536x9472, .i32⟩
  | 13 => ⟨S6x1536x9472, .i32⟩
  | 14 => ⟨S_, .i32⟩
  | 15 => ⟨S6x1536x9472, .i32⟩
  | 16 => ⟨S6x1536x9472, .i32⟩
  | 17 => ⟨S6x1536x9472, .i32⟩
  | 18 => ⟨S6x1536x9472, .i8⟩
  | 19 => ⟨S6x1536x148, .i32⟩
  | 20 => ⟨S6x1536x148, .i8⟩
  | _ => ⟨S6x1536x3584, .bf16⟩

abbrev hbmTy (i : Nat) : BufTy := match i / 128 with
  | 0 => hbmTy0_0 i
  | 1 => hbmTy0_1 i
  | _ => ⟨S6x1536x3584, .bf16⟩

abbrev bufTy : (tb : Table) → Fin (tcTables nBuf tb) → BufTy
  | .hbm, ⟨i, _⟩ => hbmTy i
  | _, _ => ⟨S6x1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_5 : Ref sig .tc := ⟨.hbm, 52, rfl⟩
abbrev main_v43 : Ref sig .tc := ⟨.hbm, 53, rfl⟩
abbrev main_v44 : Ref sig .tc := ⟨.hbm, 54, rfl⟩
abbrev main_c_6 : Ref sig .tc := ⟨.hbm, 55, rfl⟩
abbrev main_v45 : Ref sig .tc := ⟨.hbm, 56, rfl⟩
abbrev main_v46 : Ref sig .tc := ⟨.hbm, 57, rfl⟩
abbrev main_c_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_8 : Ref sig .tc := ⟨.hbm, 67, rfl⟩
abbrev main_v55 : Ref sig .tc := ⟨.hbm, 68, rfl⟩
abbrev main_v56 : Ref sig .tc := ⟨.hbm, 69, rfl⟩
abbrev main_c_9 : Ref sig .tc := ⟨.hbm, 70, rfl⟩
abbrev main_v57 : Ref sig .tc := ⟨.hbm, 71, rfl⟩
abbrev main_v58 : Ref sig .tc := ⟨.hbm, 72, rfl⟩
abbrev main_c_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_call5_v0 : Ref sig .tc := ⟨.hbm, 117, rfl⟩
abbrev main_call5_v1 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_16 : Ref sig .tc := ⟨.hbm, 130, rfl⟩
abbrev main_c_17 : Ref sig .tc := ⟨.hbm, 131, rfl⟩
abbrev main_call8_v0 : Ref sig .tc := ⟨.hbm, 132, rfl⟩
abbrev main_call8_v1 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_18 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Proof.Maths.lean ====
/-
  THE MATHEMATICS BOTH PROGRAMS COMPUTE, without a program in it: what a packed byte's two signed 4-bit fields are, a
  product's column as one sum over the 3584 channels, that sum split into its even and its odd channels, and the gated
  product of two such sums. Over the extended reals every conversion of format is the identity, so no rounding appears.
-/
module

public import Idealize.ShloMosaic.PureOps.Ideal.Laws

@[expose] public section

noncomputable section

namespace Cert.GateUp

open Idealize.ShloMosaic

/-- The signed 4-bit field of a packed byte, as a 32-bit word: the low half (`r = 0`) or the high half, its top bit
    shifted up to the word's sign and the word shifted back down. -/
def field (v : BitVec 8) (r : Nat) : BitVec 32 :=
  if r = 0 then IntOp.shrsi .vector (IntOp.shli .vector (v.setWidth 32) 28#32) 28#32
  else IntOp.shrsi .vector (IntOp.shli .vector (v.setWidth 32) 24#32) 28#32

/-- The low half taken by a mask and made signed by subtracting 16 from 8 on is the low field. -/
theorem masked_low_eq_field (v : BitVec 8) :
    Scalar.select (IntOp.cmpi .sge (IntOp.andi (v.setWidth 32) 15#32) 8#32)
      (IntOp.subi (IntOp.andi (v.setWidth 32) 15#32) 16#32) (IntOp.andi (v.setWidth 32) 15#32) = field v 0 := by
  revert v; decide +kernel

/-- The high half taken by a shift and made signed by subtracting 16 from 8 on is the high field. -/
theorem shifted_high_eq_field (v : BitVec 8) :
    Scalar.select (IntOp.cmpi .sge (IntOp.shrsi .host (v.setWidth 32) 4#32) 8#32)
      (IntOp.subi (IntOp.shrsi .host (v.setWidth 32) 4#32) 16#32) (IntOp.shrsi .host (v.setWidth 32) 4#32) = field v 1 := by
  revert v; decide +kernel

/-- A 32-bit word as an extended real: the integer it denotes. -/
def real (w : BitVec 32) : EReal := ((w.toInt : ℝ) : EReal)

/-- One weight: channel `k`'s 4-bit field of its column's byte `k / 2`, times its column's scale of group `k / 128`. -/
def weight (w : Fin 1792 → BitVec 8) (s : Fin 28 → EReal) (k : Fin 3584) : EReal :=
  real (field (w ⟨k.val / 2, by omega⟩) (k.val % 2)) * s ⟨k.val / 128, by omega⟩

/-- One element of a product: a row of activations times a column of weights. -/
def column (a : Fin 3584 → EReal) (w : Fin 1792 → BitVec 8) (s : Fin 28 → EReal) : EReal :=
  ∑ k : Fin 3584, a k * weight w s k

/-- The gated product `g / (1 + exp (-g)) * u`. -/
def gated (g u : EReal) : EReal :=
  g * Ideal.div (Ideal.ofBits .f32 0x3F800000#32) (Ideal.ofBits .f32 0x3F800000#32 + Ideal.exp (-g)) * u

/-- A sum over `2 n` places is the sum over the even ones plus the sum over the odd ones. -/
theorem sum_pairs {N n : Nat} (h : N = n * 2) (f : Fin N → EReal) :
    ∑ k, f k = (∑ i : Fin n, f ⟨2 * i.val, by omega⟩) + ∑ i : Fin n, f ⟨2 * i.val + 1, by omega⟩ := by
  subst h
  rw [← Equiv.sum_comp (finProdFinEquiv (m := n) (n := 2)) f, Fintype.sum_prod_type, ← Finset.sum_add_distrib]
  refine Finset.sum_congr rfl fun i _ => ?_
  rw [Fin.sum_univ_two]
  congr 2 <;> exact Fin.ext (by simp [finProdFinEquiv]; try omega)

/-- A product's element from its even and its odd channels, as two sums over the packed rows: row `i` holds channel `2 i`
    in its low half and channel `2 i + 1` in its high half, both of group `i / 64`. -/
theorem column_eq (a : Fin 3584 → EReal) (w : Fin 1792 → BitVec 8) (s : Fin 28 → EReal) :
    column a w s
      = (∑ i : Fin 1792, a ⟨2 * i.val, by omega⟩ * (real (field (w i) 0) * s ⟨i.val / 64, by omega⟩))
        + ∑ i : Fin 1792, a ⟨2 * i.val + 1, by omega⟩ * (real (field (w i) 1) * s ⟨i.val / 64, by omega⟩) := by
  unfold column
  refine (sum_pairs (n := 1792) rfl _).trans (congrArg₂ (· + ·) (Finset.sum_congr rfl fun i _ => ?_)
    (Finset.sum_congr rfl fun i _ => ?_)) <;> unfold weight
  · have h1 : (⟨2 * i.val / 2, by omega⟩ : Fin 1792) = i := Fin.ext (by dsimp only; omega)
    have h2 : (⟨2 * i.val / 128, by omega⟩ : Fin 28) = ⟨i.val / 64, by omega⟩ := Fin.ext (by dsimp only; omega)
    rw [h1, h2, show 2 * i.val % 2 = 0 by omega]
  · have h1 : (⟨(2 * i.val + 1) / 2, by omega⟩ : Fin 1792) = i := Fin.ext (by dsimp only; omega)
    have h2 : (⟨(2 * i.val + 1) / 128, by omega⟩ : Fin 28) = ⟨i.val / 64, by omega⟩ := Fin.ext (by dsimp only; omega)
    rw [h1, h2, show (2 * i.val + 1) % 2 = 1 by omega]

end Cert.GateUp

end
-- ==== Proof.Weights.lean ====
/-
  THE KERNEL'S WEIGHTS. A grid point widens each branch's 4-bit weights into a scratch of its own, 112 tiles of 128 by 128:
  tile `(g, c)` comes from rows `64 g ..` of the packed block and row `g` of the scales. Read as a whole, the scratch is
  the matrix of the weights.
-/
module

public import proofs.«01_k».proof.Proof.Maths
public import proofs.«01_k».proof.Proof.Gen.KernelIdeal.Frame
public import Idealize.ShloMosaic.Lib.ValueIdx
public import Idealize.ShloMosaic.Lib.WholeRead

@[expose] public section

noncomputable section

namespace Cert.GateUp

open Idealize.ShloMosaic Idealize.ShloMosaic.ValueIdx Idealize.ShloMosaic.TcCoe Idealize.SL.Sem
open Cert.KernelIdeal Cert.KernelIdeal.Gen

/-- One tile widened: row `r` takes the field `r % 2` of packed row `r / 2`, times the column's scale. -/
theorem wide_apply (w : Vec Ideal S64x128 .i8) (s : Vec Ideal S1x128 .f32) (j : S128x128.Idx) (p : Fin 64) (q : Fin 128)
    (hp : p.val = (j 0).val / 2) (hq : q.val = (j 1).val) :
    k0_pay5 (F := Ideal) w s j = real (field (w (ix2 p q)) ((j 0).val % 2)) * s (ix2 0 q) := by
  have h0 : (j 0).val < 128 := (j 0).isLt
  have h1 : (j 1).val < 128 := (j 1).isLt
  unfold k0_pay5
  dsimp only
  rw [shapeCast_apply _ _ j j rfl, mulf_apply, sitofp_apply,
    shapeCast_apply _ _ j (ix3 p (⟨(j 0).val % 2, by omega⟩ : Fin 2) q)
      (by rw [Shape.rowMajor_val_three, Shape.rowMajor_val_two]; show (p.val * 2 + (j 0).val % 2) * 128 + q.val = (j 0).val * 128 + (j 1).val; omega),
    broadcastTo_apply _ _ j (ix2 (0 : Fin 1) q) (fun a => match a with
      | ⟨0, _⟩ => rfl
      | ⟨1, _⟩ => hq),
    truncf_apply, shapeCast_apply _ _ (ix2 (0 : Fin 1) q) (ix2 (0 : Fin 1) q) rfl]
  refine congrArg₂ (· * ·) (congrArg real ?_) rfl
  have hw : shapeCast S64x128 w shapeCasts_S64x128_S64x128 (ix2 p q) = w (ix2 p q) := shapeCast_apply _ _ _ _ rfl
  have hm : (S64x128.rowMajor (ix2 p q)).val = (S64x1x128.rowMajor (ix3 p (0 : Fin 1) q)).val := by
    rw [Shape.rowMajor_val_three, Shape.rowMajor_val_two]; show p.val * 128 + q.val = (p.val * 1 + 0) * 128 + q.val; omega
  generalize hr : (⟨(j 0).val % 2, by omega⟩ : Fin 2) = r
  have hr' : r.val = (j 0).val % 2 := by rw [← hr]
  rcases Nat.mod_two_eq_zero_or_one (j 0).val with h | h
  · refine (concatenate_pair_apply_left (s₁ := S64x1x128) (s₂ := S64x1x128) 1 _ _ _ (ix3 p r q : S64x2x128.Idx) rfl (ix3 p (0 : Fin 1) q : S64x1x128.Idx) (fun b => match b with
      | ⟨0, _⟩ => rfl
      | ⟨1, _⟩ => (hr'.trans h).symm
      | ⟨2, _⟩ => rfl)).trans ?_
    rw [shapeCast_apply _ _ _ (ix2 p q) hm, h]
    exact congrArg (fun v => field v 0) hw
  · refine (concatenate_pair_apply_right (s₁ := S64x1x128) (s₂ := S64x1x128) 1 _ _ _ (ix3 p r q : S64x2x128.Idx) rfl rfl (ix3 p (0 : Fin 1) q : S64x1x128.Idx) (fun b hb => match b with
      | ⟨0, _⟩ => rfl
      | ⟨1, _⟩ => absurd rfl hb
      | ⟨2, _⟩ => rfl) (by show 0 + 1 = r.val; omega)).trans ?_
    rw [shapeCast_apply _ _ _ (ix2 p q) hm, h]
    exact congrArg (fun v => field v 1) hw

/-- The weights of a block's branch `b` as a matrix: row `r` is channel `r`, column `n` the block's column `n`. -/
def matrix (x1 : Vec Ideal S2x1792x512 .i8) (x2 : Vec Ideal S2x28x512 .f32) (b : Fin 2) (j : S3584x512.Idx) : EReal :=
  weight (fun r => x1 (ix3 b r (j 1 : Fin 512))) (fun g => x2 (ix3 b g (j 1 : Fin 512))) (j 0 : Fin 3584)

/-- What a load of a box at `(o, c)` of branch `b` of a two-branch block reads: the block's element there. -/
theorem branch_apply {e : EltTy} {R C : Nat} (M : Memref sig .tc .vmem ⟨3, ![2, R, C]⟩ e) (hM : M.IsWhole)
    (X : Vec Ideal ⟨3, ![2, R, C]⟩ e) (b o c h w : Nat) (inb : ∀ a, (![b, 0, 0] : Fin 3 → Nat) a + (![1, R, C] : Fin 3 → Nat) a ≤ (![2, R, C] : Fin 3 → Nat) a)
    (h1 : ∀ a, (Rect.unit (s := ⟨3, ![2, R, C]⟩) ![b, 0, 0] ![1, R, C] inb).stride a = 1)
    (hq : (⟨3, ![1, R, C]⟩ : Shape).Squeezes ⟨2, ![R, C]⟩)
    (inb' : ∀ a, (![o, c] : Fin 2 → Nat) a + (![h, w] : Fin 2 → Nat) a ≤ (![R, C] : Fin 2 → Nat) a) (p : Fin h) (q : Fin w)
    (b' : Fin 2) (o' : Fin R) (c' : Fin C) (hb : b'.val = b) (ho : o'.val = o + p.val) (hc : c'.val = c + q.val) :
    View.readAt (Elt Ideal) ((M.slice (Rect.unit (s := ⟨3, ![2, R, C]⟩) ![b, 0, 0] ![1, R, C] inb) h1).squeeze ⟨2, ![R, C]⟩ hq).view
        (Rect.unit (s := ⟨2, ![R, C]⟩) ![o, c] ![h, w] inb').toLoadRect (hM.unread X) (ix2 p q)
      = X (ix3 b' o' c') := by
  refine (hM.readAt_slice_reshape_unread X (Rect.unit (s := ⟨3, ![2, R, C]⟩) ![b, 0, 0] ![1, R, C] inb)
    hq.numel_eq (Rect.unit (s := ⟨2, ![R, C]⟩) ![o, c] ![h, w] inb').toLoadRect (ix2 p q)).trans (congrArg X ?_)
  refine Eq.trans (congrArg (Rect.unit (s := ⟨3, ![2, R, C]⟩) ![b, 0, 0] ![1, R, C] inb).emb
    (Shape.reshapeEquiv_cons_one (d := ![R, C]) hq.numel_eq _)) (funext fun a => ?_)
  match a with
  | ⟨0, _⟩ => exact Fin.ext (by show b + 1 * 0 = b'.val; omega)
  | ⟨1, _⟩ => exact Fin.ext (by show 0 + 1 * (o + 1 * p.val) = o'.val; omega)
  | ⟨2, _⟩ => exact Fin.ext (by show 0 + 1 * (c + 1 * q.val) = c'.val; omega)

section Tiles

variable (arg3 : Memref sig .tc .vmem S2x1792x512 .i8) (harg3 : arg3.IsWhole)
  (arg4 : Memref sig .tc .vmem S2x28x512 .f32) (harg4 : arg4.IsWhole)
  (x1 : Vec Ideal S2x1792x512 .i8) (x2 : Vec Ideal S2x28x512 .f32)

/-- Tile `(g, c)` of branch `b`, as the body widens it: rows `64 g ..` and scale row `g` of columns `128 c ..`. -/
def tile (b g c : Nat)
    (hb : ∀ a, (![b, 0, 0] : Fin 3 → Nat) a + S1x1792x512.size a ≤ S2x1792x512.size a)
    (hb' : ∀ a, (![b, 0, 0] : Fin 3 → Nat) a + S1x28x512.size a ≤ S2x28x512.size a)
    (hw : ∀ a, (![64 * g, 128 * c] : Fin 2 → Nat) a + S64x128.size a ≤ S1792x512.size a)
    (hs : ∀ a, (![g, 128 * c] : Fin 2 → Nat) a + S1x128.size a ≤ S28x512.size a) : Vec Ideal S128x128 .bf16 :=
  k0_pay5 (F := Ideal)
    (View.readAt (Elt Ideal) ((arg3.slice (Rect.unit (s := S2x1792x512) ![b, 0, 0] S1x1792x512.size hb) (fun _ => rfl)).squeeze S1792x512
      squeezes_S1x1792x512_S1792x512).view (Rect.unit (s := S1792x512) ![64 * g, 128 * c] S64x128.size hw).toLoadRect (harg3.unread x1))
    (View.readAt (Elt Ideal) ((arg4.slice (Rect.unit (s := S2x28x512) ![b, 0, 0] S1x28x512.size hb') (fun _ => rfl)).squeeze S28x512
      squeezes_S1x28x512_S28x512).view (Rect.unit (s := S28x512) ![g, 128 * c] S1x128.size hs).toLoadRect (harg4.unread x2))

/-- A tile holds the weights of its place in the matrix. -/
theorem tile_apply (b : Fin 2) (g c : Nat) (hg : g < 28) (hc : c < 4) (hb hb' hw hs) (j : S128x128.Idx) (y : S3584x512.Idx)
    (h0 : (y 0).val = 128 * g + (j 0).val) (h1 : (y 1).val = 128 * c + (j 1).val) :
    tile arg3 harg3 arg4 harg4 x1 x2 b.val g c hb hb' hw hs j = matrix x1 x2 b y := by
  have hj0 : (j 0).val < 128 := (j 0).isLt
  have hj1 : (j 1).val < 128 := (j 1).isLt
  have hr : (y 0).val < 3584 := (y 0).isLt
  refine (wide_apply _ _ j ⟨(j 0).val / 2, by omega⟩ ⟨(j 1).val, hj1⟩ rfl rfl).trans ?_
  rw [show (j 0).val % 2 = (y 0).val % 2 by omega]
  refine congrArg₂ (· * ·) (congrArg (fun v => real (field v _)) ?_) ?_
  · exact branch_apply arg3 harg3 x1 b.val (64 * g) (128 * c) 64 128 hb (fun _ => rfl) squeezes_S1x1792x512_S1792x512 hw
      _ _ b _ _ rfl (by show (y 0).val / 2 = 64 * g + (j 0).val / 2; omega) h1
  · exact branch_apply arg4 harg4 x2 b.val g (128 * c) 1 128 hb' (fun _ => rfl) squeezes_S1x28x512_S28x512 hs
      0 _ b _ _ rfl (by show (y 0).val / 128 = g + 0; omega) h1

/-- Tile `k` of the order the body stores them in: down the groups, across the columns within a group. -/
def tileStore (b : Fin 2) (k : Fin 112) : View.Piece (Elt Ideal) S3584x512 .bf16 :=
  ⟨Rect.unit (s := S3584x512) ![128 * (k.val / 4), 128 * (k.val % 4)] S128x128.size
      (by intro a; have := k.isLt; fin_cases a <;> dsimp <;> omega),
    tile arg3 harg3 arg4 harg4 x1 x2 b.val (k.val / 4) (k.val % 4)
      (by intro a; have := b.isLt; fin_cases a <;> dsimp <;> omega) (by intro a; have := b.isLt; fin_cases a <;> dsimp <;> omega)
      (by intro a; have := k.isLt; fin_cases a <;> dsimp <;> omega) (by intro a; have := k.isLt; fin_cases a <;> dsimp <;> omega)⟩

/-- A branch's stores, the last one first. -/
def tileStores (b : Fin 2) : List (View.Piece (Elt Ideal) S3584x512 .bf16) :=
  List.ofFn fun k : Fin 112 => tileStore arg3 harg3 arg4 harg4 x1 x2 b k.rev

/-- Together the stores leave the matrix of the weights. -/
theorem canon_tileStores (b : Fin 2) :
    View.canon (tileStores arg3 harg3 arg4 harg4 x1 x2 b) = matrix x1 x2 b := by
  funext y
  refine View.canon_apply_of_pieces (matrix x1 x2 b) _ (fun p hp x => ?_) y
    (View.cover_of_tiledL (tileStores arg3 harg3 arg4 harg4 x1 x2 b) S128x128.size (by sl_kernel_rfl) y)
  obtain ⟨k, rfl⟩ := List.mem_ofFn.1 hp
  have := k.rev.isLt
  exact tile_apply arg3 harg3 arg4 harg4 x1 x2 b _ _ (by omega) (by omega) _ _ _ _ x _
    (by show _ + 1 * (x 0).val = _; exact congrArg (_ + ·) (Nat.one_mul _))
    (by show _ + 1 * (x 1).val = _; exact congrArg (_ + ·) (Nat.one_mul _))

/-- The gate's scratch, read as a whole. -/
theorem canon_gate (c : Dev nD) :
    View.canon (kernelRun0_A.sl.HS0_112 (F := Ideal) c arg3 harg3 arg4 harg4 x1 x2) = matrix x1 x2 0 :=
  (congrArg View.canon (show _ = tileStores arg3 harg3 arg4 harg4 x1 x2 0 by sl_kernel_rfl)).trans
    (canon_tileStores arg3 harg3 arg4 harg4 x1 x2 0)

/-- The up branch's scratch, read as a whole. -/
theorem canon_up (c : Dev nD) :
    View.canon (kernelRun0_A.sl.HS1_112 (F := Ideal) c arg3 harg3 arg4 harg4 x1 x2) = matrix x1 x2 1 :=
  (congrArg View.canon (show _ = tileStores arg3 harg3 arg4 harg4 x1 x2 1 by sl_kernel_rfl)).trans
    (canon_tileStores arg3 harg3 arg4 harg4 x1 x2 1)

end Tiles

end Cert.GateUp

end
-- ==== Proof.Block.lean ====
/-
  ONE BLOCK OF THE KERNEL'S RESULT. A grid point takes the block's 1536 rows in three rounds of 512. A round leaves the two
  products of its rows in two accumulators, and 64 stores of 32 by 128 then write the gated product of the two. All 192
  stores together leave the gated product of the block's two products.
-/
module

public import proofs.«01_k».proof.Proof.Weights

@[expose] public section

noncomputable section

namespace Cert.GateUp

open Idealize.ShloMosaic Idealize.ShloMosaic.ValueIdx Idealize.ShloMosaic.TcCoe Idealize.SL.Sem
open Cert.KernelIdeal Cert.KernelIdeal.Gen

/-- A round's product, at an element: the sum over the channels. -/
theorem dot_apply (a : Vec Ideal S1x512x3584 .bf16) (w : Vec Ideal S3584x512 .bf16) (p n : Fin 512) :
    k0_pay453 (F := Ideal) a w (ix2 p n) = ∑ k : Fin 3584, a (ix3 0 p k) * w (ix2 k n) := by
  unfold k0_pay453
  rw [shapeCast_apply _ _ (ix2 p n) (ix2 p n) rfl]
  refine (Ideal.matmul_constant_zero_apply (φ₁ := .bf16) (φ₂ := .bf16) dot_S512x3584_S3584x512_S512x512_1_0_0_1_n_n none _ _ (ix2 p n)).trans ?_
  rw [← Equiv.sum_comp (contrEquiv1 dot_S512x3584_S3584x512_S512x512_1_0_0_1_n_n 3584 rfl rfl).symm]
  refine Finset.sum_congr rfl fun k _ => congrArg₂ (· * ·) ?_ (congrArg w ?_)
  · exact shapeCast_apply _ _ _ (ix3 0 p k) (by
      rw [Shape.rowMajor_val_three, Shape.rowMajor_val_two]; show (0 * 512 + p.val) * 3584 + k.val = p.val * 3584 + k.val; omega)
  · funext a
    match a with
    | ⟨0, _⟩ => exact Fin.ext rfl
    | ⟨1, _⟩ => exact Fin.ext rfl

/-- Element `(p, n)` of the product of a block's rows with its branch `b`. -/
def blockColumn (x0 : Vec Ideal S1x1536x3584 .bf16) (x1 : Vec Ideal S2x1792x512 .i8) (x2 : Vec Ideal S2x28x512 .f32)
    (b : Fin 2) (p : Fin 1536) (n : Fin 512) : EReal :=
  column (fun k => x0 (ix3 0 p k)) (fun r => x1 (ix3 b r n)) (fun g => x2 (ix3 b g n))

/-- What a store of results writes: the gated product of what it reads of the two accumulators. -/
theorem gated_apply (g u : Vec Ideal S32x128 .f32) (j : S1x32x128.Idx) (y : S32x128.Idx)
    (hp : (y 0).val = (j 1).val) (hq : (y 1).val = (j 2).val) :
    k0_pay2839 (F := Ideal) g u j = gated (g y) (u y) := by
  have h0 : (j 0).val = 0 := Nat.lt_one_iff.1 (j 0).isLt
  unfold k0_pay2839
  refine (shapeCast_apply _ _ j y (by
    rw [Shape.rowMajor_val_three, Shape.rowMajor_val_two]
    show (y 0).val * 128 + (y 1).val = ((j 0).val * 32 + (j 1).val) * 128 + (j 2).val
    omega)).trans ?_
  show g y * Ideal.div (Ideal.ofBits .f32 0x3F800000#32)
    (Ideal.ofBits .f32 0x3F800000#32 + Ideal.exp (Ideal.ofBits .f32 0x00000000#32 - g y)) * u y = _
  rw [Ideal.ofBits_zero_f32, zero_sub]
  rfl

section Rounds

variable (arg2 : Memref sig .tc .vmem S1x1536x3584 .bf16) (harg2 : arg2.IsWhole)
  (arg3 : Memref sig .tc .vmem S2x1792x512 .i8) (harg3 : arg3.IsWhole)
  (arg4 : Memref sig .tc .vmem S2x28x512 .f32) (harg4 : arg4.IsWhole)
  (arg9 arg10 : Memref sig .tc .vmem S3584x512 .bf16) (arg11 arg12 : Memref sig .tc .vmem S512x512 .f32)
  (x0 : Vec Ideal S1x1536x3584 .bf16) (x1 : Vec Ideal S2x1792x512 .i8) (x2 : Vec Ideal S2x28x512 .f32)

/-- Round `m`'s product with the weights `w`. -/
def roundSum (w : Vec Ideal S3584x512 .bf16) (m : Nat) (hm : m < 3) : Vec Ideal S512x512 .f32 :=
  k0_pay453 (F := Ideal) (View.readAt (Elt Ideal) arg2.view (Rect.unit (s := S1x1536x3584) ![0, 512 * m, 0] S1x512x3584.size
    (by intro a; fin_cases a <;> dsimp <;> omega)).toLoadRect (harg2.unread x0)) w

/-- An accumulator's stores up to round `m`, the last one first: each overwrites the whole of it. -/
def roundStores (w : Vec Ideal S3584x512 .bf16) : (m : Nat) → m < 3 → List (View.Piece (Elt Ideal) S512x512 .f32)
  | 0, h => [⟨Rect.unit (s := S512x512) ![0, 0] S512x512.size inb_S512x512_S512x512_0_0, roundSum arg2 harg2 x0 w 0 h⟩]
  | m + 1, h => ⟨Rect.unit (s := S512x512) ![0, 0] S512x512.size inb_S512x512_S512x512_0_0,
      roundSum arg2 harg2 x0 w (m + 1) h⟩ :: roundStores w m (Nat.lt_of_succ_lt h)

/-- After round `m` the accumulator holds that round's product. -/
theorem canon_roundStores (w : Vec Ideal S3584x512 .bf16) (m : Nat) (hm : m < 3) :
    View.canon (roundStores arg2 harg2 x0 w m hm) = roundSum arg2 harg2 x0 w m hm := by
  have h : (![0, 0] : Fin 2 → Nat) = fun _ => 0 := by funext a; fin_cases a <;> rfl
  cases m <;> exact View.canon_cons_unit_zero h _ _ _

/-- Round `m`'s product at an element, where the weights are branch `b`'s matrix. -/
theorem roundSum_apply (b : Fin 2) (m : Nat) (hm : m < 3) (j : S512x512.Idx) (p : Fin 1536) (n : Fin 512)
    (hp : p.val = 512 * m + (j 0).val) (hn : n.val = (j 1).val) :
    roundSum arg2 harg2 x0 (matrix x1 x2 b) m hm j = blockColumn x0 x1 x2 b p n := by
  obtain rfl : j 1 = n := Fin.ext hn.symm
  unfold blockColumn column
  refine (congrArg _ (eq_ix2 j)).trans ((dot_apply _ _ (j 0) (j 1)).trans (Finset.sum_congr rfl fun k _ => ?_))
  refine congrArg₂ (· * ·) ((harg2.readAt_unread x0 _ _).trans (congrArg x0 (funext fun a => ?_))) rfl
  match a with
  | ⟨0, _⟩ => exact Fin.ext rfl
  | ⟨1, _⟩ => exact Fin.ext (by show 512 * m + 1 * (j 0).val = p.val; omega)
  | ⟨2, _⟩ => exact Fin.ext (by show 0 + 1 * k.val = k.val; omega)

/-- The gate's weights, as the rounds read them. -/
def gateWeights (c : Dev nD) : Vec Ideal S3584x512 .bf16 :=
  View.readCov (Val := Elt Ideal) arg9.view (kernelRun0_A.sl.HS0_112 (F := Ideal) c arg3 harg3 arg4 harg4 x1 x2)
    (Rect.unit (s := S3584x512) ![0, 0] S3584x512.size (by intro a; fin_cases a <;> dsimp <;> omega)).toLoadRect

/-- The up branch's weights, as the rounds read them. -/
def upWeights (c : Dev nD) : Vec Ideal S3584x512 .bf16 :=
  View.readCov (Val := Elt Ideal) arg10.view (kernelRun0_A.sl.HS1_112 (F := Ideal) c arg3 harg3 arg4 harg4 x1 x2)
    (Rect.unit (s := S3584x512) ![0, 0] S3584x512.size (by intro a; fin_cases a <;> dsimp <;> omega)).toLoadRect

/-- A whole box is read in place. -/
theorem whole_idx (inb) (j : S3584x512.Idx) :
    (Rect.unit (s := S3584x512) ![0, 0] S3584x512.size inb).toLoadRect.idx j = j := by
  funext a
  match a with
  | ⟨0, _⟩ => exact Fin.ext (by show 0 + 1 * (j 0).val = (j 0).val; omega)
  | ⟨1, _⟩ => exact Fin.ext (by show 0 + 1 * (j 1).val = (j 1).val; omega)

theorem gateWeights_eq (c : Dev nD) : gateWeights arg3 harg3 arg4 harg4 arg9 x1 x2 c = matrix x1 x2 0 := by
  unfold gateWeights
  rw [View.readCov_eq_canon', canon_gate]
  exact funext fun j => congrArg _ (whole_idx _ j)

theorem upWeights_eq (c : Dev nD) : upWeights arg3 harg3 arg4 harg4 arg10 x1 x2 c = matrix x1 x2 1 := by
  unfold upWeights
  rw [View.readCov_eq_canon', canon_up]
  exact funext fun j => congrArg _ (whole_idx _ j)

/-- Store `k` of the results: the gated product of a box of the two accumulators of round `k / 64`. -/
def resultStore (wg wu : Vec Ideal S3584x512 .bf16) (k : Fin 192) : View.Piece (Elt Ideal) S1x1536x512 .bf16 :=
  ⟨Rect.unit (s := S1x1536x512) ![0, 32 * (k.val / 4), 128 * (k.val % 4)] S1x32x128.size
      (by intro a; have := k.isLt; fin_cases a <;> dsimp <;> omega),
    k0_pay2839 (F := Ideal)
      (View.readCov (Val := Elt Ideal) arg11.view (roundStores arg2 harg2 x0 wg (k.val / 64) (by omega))
        (Rect.unit (s := S512x512) ![32 * (k.val % 64 / 4), 128 * (k.val % 4)] S32x128.size
          (by intro a; fin_cases a <;> dsimp <;> omega)).toLoadRect)
      (View.readCov (Val := Elt Ideal) arg12.view (roundStores arg2 harg2 x0 wu (k.val / 64) (by omega))
        (Rect.unit (s := S512x512) ![32 * (k.val % 64 / 4), 128 * (k.val % 4)] S32x128.size
          (by intro a; fin_cases a <;> dsimp <;> omega)).toLoadRect)⟩

/-- The block of results: the gated product of the block's two products. -/
def blockOut (j : S1x1536x512.Idx) : EReal :=
  gated (blockColumn x0 x1 x2 0 (j 1) (j 2)) (blockColumn x0 x1 x2 1 (j 1) (j 2))

/-- A store of results agrees with the block. -/
theorem resultStore_apply (k : Fin 192) (x : S1x32x128.Idx) :
    (resultStore arg2 harg2 arg11 arg12 x0 (matrix x1 x2 0) (matrix x1 x2 1) k).2 x
      = blockOut x0 x1 x2 ((resultStore arg2 harg2 arg11 arg12 x0 (matrix x1 x2 0) (matrix x1 x2 1) k).1.emb x) := by
  have hk := k.isLt
  refine (gated_apply _ _ x (ix2 (x 1) (x 2)) rfl rfl).trans ?_
  rw [View.readCov_eq_canon', View.readCov_eq_canon', canon_roundStores, canon_roundStores]
  refine congrArg₂ gated ?_ ?_ <;>
    exact roundSum_apply arg2 harg2 x0 x1 x2 _ _ _ _ _ _
      (by show 32 * (k.val / 4) + 1 * (x 1).val = 512 * (k.val / 64) + (32 * (k.val % 64 / 4) + 1 * (x 1).val); omega) rfl

/-- The body's stores of results, the last one first. -/
theorem run_stores (c : Dev nD) (i : grid0.Coords) (arg5 : Memref sig .tc .vmem S1x1536x512 .bf16) (harg5 : arg5.IsWhole)
    (arg6 : Memref sig .tc .vmem S1x1536x256 .i8) (harg6 : arg6.IsWhole)
    (arg7 : Memref sig .tc .vmem S1x1x4x1536 .f32) (harg7 : arg7.IsWhole)
    (arg8 : Memref sig .tc .vmem S1x1x4x1536 .f32) (harg8 : arg8.IsWhole)
    (harg9 : arg9.IsWhole) (harg10 : arg10.IsWhole) (harg11 : arg11.IsWhole) (harg12 : arg12.IsWhole) :
    (kernelRun0_A (F := Ideal) c i arg2 harg2 arg3 harg3 arg4 harg4 arg5 harg5 arg6 harg6 arg7 harg7 arg8 harg8
        arg9 harg9 arg10 harg10 arg11 harg11 arg12 harg12 x0 x1 x2).1
      = List.ofFn fun k : Fin 192 => resultStore arg2 harg2 arg11 arg12 x0 (gateWeights arg3 harg3 arg4 harg4 arg9 x1 x2 c)
          (upWeights arg3 harg3 arg4 harg4 arg10 x1 x2 c) k.rev := by
  sl_kernel_rfl

/-- What a grid point leaves in its block of results. -/
theorem out_eq (c : Dev nD) (i : grid0.Coords) (arg5 : Memref sig .tc .vmem S1x1536x512 .bf16) (harg5 : arg5.IsWhole)
    (arg6 : Memref sig .tc .vmem S1x1536x256 .i8) (harg6 : arg6.IsWhole)
    (arg7 : Memref sig .tc .vmem S1x1x4x1536 .f32) (harg7 : arg7.IsWhole)
    (arg8 : Memref sig .tc .vmem S1x1x4x1536 .f32) (harg8 : arg8.IsWhole)
    (harg9 : arg9.IsWhole) (harg10 : arg10.IsWhole) (harg11 : arg11.IsWhole) (harg12 : arg12.IsWhole) :
    out0_A_3 (F := Ideal) c i arg2 harg2 arg3 harg3 arg4 harg4 arg5 harg5 arg6 harg6 arg7 harg7 arg8 harg8
        arg9 harg9 arg10 harg10 arg11 harg11 arg12 harg12 x0 x1 x2 = blockOut x0 x1 x2 := by
  have hcov := cover0_A_3 (F := Ideal) c i arg2 harg2 arg3 harg3 arg4 harg4 arg5 harg5 arg6 harg6 arg7 harg7 arg8 harg8
    arg9 harg9 arg10 harg10 arg11 harg11 arg12 harg12 x0 x1 x2
  have hrun := run_stores arg2 harg2 arg3 harg3 arg4 harg4 arg9 arg10 arg11 arg12 x0 x1 x2 c i arg5 harg5 arg6 harg6 arg7 harg7
    arg8 harg8 harg9 harg10 harg11 harg12
  rw [gateWeights_eq, upWeights_eq] at hrun
  unfold out0_A_3
  rw [View.read_writes_eq_canon _ _ _ hcov]
  refine funext fun y => View.canon_apply_of_pieces (blockOut x0 x1 x2) _ (fun p hp x => ?_) y (hcov y)
  rw [hrun] at hp
  obtain ⟨k, rfl⟩ := List.mem_ofFn.1 hp
  exact resultStore_apply arg2 harg2 arg11 arg12 x0 x1 x2 k.rev x

end Rounds

end Cert.GateUp

end
-- ==== Proof.Codes.lean ====
/-
  THE QUANTISER OF ONE GROUP of 128 numbers, without a program in it: the least and the largest of them and zero, the scale, the
  zero point, the codes, and the byte of two codes. The codes are whole numbers from 0 to 15 whatever the group holds, the
  infinities included.
-/
module

public import Idealize.ShloMosaic.PureOps.Ideal.Laws
public import Idealize.ShloMosaic.Lib.IdealHost

@[expose] public section

noncomputable section

namespace Cert.GateUp

open Idealize.ShloMosaic

/-- The least of a group and zero. -/
def low (w : Fin 128 → EReal) : EReal :=
  min ((Finset.univ : Finset (Fin 128)).fold min (Ideal.ofBits .f32 0x7F800000#32) w) 0

/-- The largest of a group and zero. -/
def high (w : Fin 128 → EReal) : EReal :=
  max ((Finset.univ : Finset (Fin 128)).fold max (Ideal.ofBits .f32 0xFF800000#32) w) 0

/-- The scale of a group: a fifteenth of its range, or 1 where the range is empty. -/
def scaleOf (w : Fin 128 → EReal) : EReal :=
  Scalar.select (Ideal.cmp .oeq (high w) (low w)) (Ideal.ofBits .f32 0x3F800000#32)
    (Ideal.div (high w - low w) (Ideal.ofBits .f32 0x41700000#32))

/-- The zero point of a group. -/
def zeroOf (w : Fin 128 → EReal) : EReal :=
  Ideal.liftRound Ideal.roundHalfEven (Ideal.div (-low w) (scaleOf w))

/-- The code of a number of a group. -/
def codeOf (w : Fin 128 → EReal) (x : EReal) : EReal :=
  min (Ideal.ofBits .f32 0x41700000#32)
    (max 0 (Ideal.liftRound Ideal.roundHalfEven (Ideal.div x (scaleOf w)) + zeroOf w))

theorem fifteen : Ideal.ofBits .f32 0x41700000#32 = ((15 : ℝ) : EReal) := by
  simp [Ideal.ofBits, Ideal.ieee, -EReal.coe_mul]; norm_num

/-- A rounded number is an infinity or an integer. -/
theorem liftRound_cases (f : ℝ → ℤ) (x : EReal) :
    Ideal.liftRound f x = ⊥ ∨ Ideal.liftRound f x = ⊤ ∨ ∃ n : ℤ, Ideal.liftRound f x = ((n : ℝ) : EReal) := by
  induction x using EReal.rec with
  | bot => exact .inl rfl
  | top => exact .inr (.inl rfl)
  | coe r => exact .inr (.inr ⟨f r, rfl⟩)

/-- An integer clipped to 0 .. 15. -/
theorem clip_int (n : ℤ) : ∃ k : Fin 16, min ((15 : ℝ) : EReal) (max 0 ((n : ℝ) : EReal)) = ((k.val : ℝ) : EReal) := by
  refine ⟨⟨(min 15 (max 0 n)).toNat, by omega⟩, ?_⟩
  have h : (((min 15 (max 0 n)).toNat : ℤ)) = min 15 (max 0 n) := Int.toNat_of_nonneg (by omega)
  have h' : (((min 15 (max 0 n)).toNat : ℕ) : ℝ) = min 15 (max 0 (n : ℝ)) := by
    have : (((min 15 (max 0 n)).toNat : ℕ) : ℝ) = ((min 15 (max 0 n) : ℤ) : ℝ) := by
      rw [← h]; push_cast; rfl
    rw [this]; push_cast; rfl
  show _ = ((((min 15 (max 0 n)).toNat : ℕ) : ℝ) : EReal)
  rw [h']
  rw [EReal.coe_strictMono.monotone.map_min, EReal.coe_strictMono.monotone.map_max]; rfl

/-- A code is a whole number from 0 to 15. -/
theorem codeOf_nat (w : Fin 128 → EReal) (x : EReal) : ∃ k : Fin 16, codeOf w x = ((k.val : ℝ) : EReal) := by
  have top : ∃ k : Fin 16, min ((15 : ℝ) : EReal) (max 0 ⊤) = ((k.val : ℝ) : EReal) := ⟨15, by simp⟩
  have bot : ∃ k : Fin 16, min ((15 : ℝ) : EReal) (max 0 ⊥) = ((k.val : ℝ) : EReal) :=
    ⟨0, by
      rw [max_eq_left bot_le, min_eq_right (by rw [← EReal.coe_zero]; exact EReal.coe_le_coe_iff.2 (by norm_num))]; simp⟩
  unfold codeOf
  rw [fifteen]
  unfold zeroOf
  rcases liftRound_cases Ideal.roundHalfEven (Ideal.div x (scaleOf w)) with h | h | ⟨n, h⟩ <;>
    rcases liftRound_cases Ideal.roundHalfEven (Ideal.div (-low w) (scaleOf w)) with h' | h' | ⟨n', h'⟩ <;> rw [h, h']
  · exact bot
  · exact bot
  · exact bot
  · exact bot
  · exact top
  · rw [EReal.top_add_coe]; exact top
  · exact bot
  · rw [EReal.coe_add_top]; exact top
  · rw [← EReal.coe_add, ← Int.cast_add]; exact clip_int _

/-- A whole number from 0 to 15 as a word. -/
theorem fptosi_nat (k : Fin 16) : Ideal.fptosi 32 ((k.val : ℝ) : EReal) = BitVec.ofNat 32 k.val := by
  have h0 : (0 : ℝ) ≤ (k.val : ℝ) := Nat.cast_nonneg _
  rw [Ideal.fptosi, Ideal.toIntClamped_coe, if_pos h0, Int.floor_natCast]
  clear h0; revert k; decide

/-- A code as a word is below 16. -/
theorem codeOf_word (w : Fin 128 → EReal) (x : EReal) : ∃ k : Fin 16, Ideal.fptosi 32 (codeOf w x) = BitVec.ofNat 32 k.val := by
  obtain ⟨k, h⟩ := codeOf_nat w x
  exact ⟨k, by rw [h, fptosi_nat]⟩

/-- The byte of two codes: the first its low half, the second its high half. -/
def byteOf (x y : EReal) : BitVec 8 := (Ideal.fptosi 32 x ||| (Ideal.fptosi 32 y <<< 4)).setWidth 8

end Cert.GateUp

end
-- ==== Proof.Quantiser.lean ====
/-
  THE QUANTISER AS THE KERNEL WRITES IT, for 32 rows of one group: the row statistics by a reduction along the lanes, the codes,
  and the bytes of the codes of two groups, which the kernel packs in 32-bit words of four rows each. At an element these are the
  quantiser of that row's group.
-/
module

public import proofs.«01_k».proof.Proof.Codes
public import Idealize.ShloMosaic.Lib.ValueIdx
public import Idealize.ShloMosaic.Lib.KernelVsHost
public import Idealize.ShloMosaic.Lib.BitcastFour
public import Idealize.ShloMosaic.Lib.BitcastPair

@[expose] public section

noncomputable section

namespace Cert.GateUp

open Idealize.ShloMosaic Idealize.ShloMosaic.ValueIdx

/-- 32 rows of 128 lanes. -/
abbrev Rows : Shape := ⟨2, ![32, 128]⟩
/-- One number a row. -/
abbrev Stat : Shape := ⟨2, ![32, 1]⟩
/-- 8 rows of 128 words. -/
abbrev Words : Shape := ⟨2, ![8, 128]⟩

theorem reducesRows : Rows.Reduces [1] ⟨1, ![32]⟩ := by decide
theorem castsStat : (⟨1, ![32]⟩ : Shape).ShapeCasts Stat := by decide
theorem spreadsStat : Stat.Broadcasts Rows := by decide

/-- Row `p`. -/
def row (v : FVec Ideal Rows .f32) (p : Fin 32) (l : Fin 128) : EReal := v (ix2 p l)

def lowRows (v : FVec Ideal Rows .f32) : FVec Ideal Stat .f32 :=
  minimumf (shapeCast Stat (multiReduction .minimumf [1] ⟨1, ![32]⟩ v 0x7F800000#32 reducesRows (.inl rfl) rfl) castsStat)
    (broadcast Stat (Scalar.ofBits .f32 0x00000000#32))

def highRows (v : FVec Ideal Rows .f32) : FVec Ideal Stat .f32 :=
  maximumf (shapeCast Stat (multiReduction .maximumf [1] ⟨1, ![32]⟩ v 0xFF800000#32 reducesRows (.inl rfl) rfl) castsStat)
    (broadcast Stat (Scalar.ofBits .f32 0x00000000#32))

def scaleRows (v : FVec Ideal Rows .f32) : FVec Ideal Stat .f32 :=
  select (cmpf .oeq (highRows v) (lowRows v)) (broadcast Stat (Scalar.ofBits .f32 0x3F800000#32))
    (divf (subf (highRows v) (lowRows v)) (broadcast Stat (Scalar.ofBits .f32 0x41700000#32)))

def zeroRows (v : FVec Ideal Rows .f32) : FVec Ideal Stat .f32 :=
  roundeven (divf (subf (broadcast Stat (Scalar.ofBits .f32 0x00000000#32)) (lowRows v)) (scaleRows v))

def codeRows (v : FVec Ideal Rows .f32) : FVec Ideal Rows .f32 :=
  minimumf (broadcast Rows (Scalar.ofBits .f32 0x41700000#32))
    (maximumf (broadcast Rows (Scalar.ofBits .f32 0x00000000#32))
      (addf (roundeven (divf v (broadcastTo Rows (scaleRows v) spreadsStat))) (broadcastTo Rows (zeroRows v) spreadsStat)))

/-- A reduction along the lanes as a column. -/
theorem stat_cast_apply {α : Type} (x : (⟨1, ![32]⟩ : Shape).Idx → α) (p : Fin 32) :
    shapeCast Stat x castsStat (ix2 p 0) = x (ix1 p) :=
  shapeCast_apply _ _ _ _ (by rw [Shape.rowMajor_val_one, Shape.rowMajor_val_two]; show p.val = p.val * 1 + 0; omega)

/-- A column spread over the lanes. -/
theorem spread_apply {α : Type} (x : Stat.Idx → α) (p : Fin 32) (l : Fin 128) :
    broadcastTo Rows x spreadsStat (ix2 p l) = x (ix2 p 0) := by
  refine congrArg x (funext fun a => ?_)
  match a with
  | ⟨0, _⟩ => rfl
  | ⟨1, _⟩ => rfl

theorem lift_eq (p : Fin 32) (l : Fin 128) : reducesRows.lift (ix1 p) l = ix2 p l := by
  funext a
  match a with
  | ⟨0, _⟩ => exact Fin.ext rfl
  | ⟨1, _⟩ => exact Fin.ext rfl

theorem lowRows_apply (v : FVec Ideal Rows .f32) (p : Fin 32) : lowRows v (ix2 p 0) = low (row v p) := by
  refine congrArg₂ min ((stat_cast_apply _ p).trans ?_) Ideal.ofBits_zero_f32
  refine (multiReduction_minimumf_eq_fold (F := Ideal) _ _ reducesRows (.inl rfl) rfl _).trans ?_
  refine (reducesRows.fold_filter_drop_single _ _ v (ix1 p)).trans ?_
  exact congrArg (Finset.fold min _ · _) (funext fun l => congrArg v (lift_eq p l))

theorem highRows_apply (v : FVec Ideal Rows .f32) (p : Fin 32) : highRows v (ix2 p 0) = high (row v p) := by
  refine congrArg₂ max ((stat_cast_apply _ p).trans ?_) Ideal.ofBits_zero_f32
  refine (multiReduction_maximumf_eq_fold (F := Ideal) _ _ reducesRows (.inl rfl) rfl _).trans ?_
  refine (reducesRows.fold_filter_drop_single _ _ v (ix1 p)).trans ?_
  exact congrArg (Finset.fold max _ · _) (funext fun l => congrArg v (lift_eq p l))

theorem scaleRows_apply (v : FVec Ideal Rows .f32) (p : Fin 32) : scaleRows v (ix2 p 0) = scaleOf (row v p) := by
  unfold scaleOf
  rw [← lowRows_apply, ← highRows_apply]; rfl

theorem zeroRows_apply (v : FVec Ideal Rows .f32) (p : Fin 32) : zeroRows v (ix2 p 0) = zeroOf (row v p) := by
  unfold zeroOf
  rw [← lowRows_apply, ← scaleRows_apply, ← zero_sub, ← Ideal.ofBits_zero_f32]; rfl

theorem codeRows_apply (v : FVec Ideal Rows .f32) (p : Fin 32) (l : Fin 128) :
    codeRows v (ix2 p l) = codeOf (row v p) (v (ix2 p l)) := by
  unfold codeOf
  rw [← zeroRows_apply, ← scaleRows_apply, ← Ideal.ofBits_zero_f32, ← spread_apply (scaleRows v) p l,
    ← spread_apply (zeroRows v) p l]; rfl

/-! ## The statistics gathered in lanes -/

theorem laneRows : Rows.Iotas .tc 32 [1] := by decide
theorem castsSelf : Stat.ShapeCasts Stat := by decide

/-- The rows `acc` with lane `k` overwritten by a column. -/
def setLane (k : Nat) (x : FVec Ideal Stat .f32) (acc : FVec Ideal Rows .f32) : FVec Ideal Rows .f32 :=
  select (cmpi .eq (iota .tc Rows 32 [1] laneRows) (broadcast Rows (BitVec.ofNat 32 k)))
    (broadcastTo Rows (shapeCast Stat x castsSelf) spreadsStat) acc

theorem setLane_apply (k : Nat) (hk : k < 128) (x : FVec Ideal Stat .f32) (acc : FVec Ideal Rows .f32) (p : Fin 32) (l : Fin 128) :
    setLane k x acc (ix2 p l) = if l.val = k then x (ix2 p 0) else acc (ix2 p l) := by
  have hl := l.isLt
  show Scalar.select (BitVec.ofBool (BitVec.ofNat 32 (0 * 128 + l.val) == BitVec.ofNat 32 k))
    (broadcastTo Rows (shapeCast Stat x castsSelf) spreadsStat (ix2 p l)) (acc (ix2 p l)) = _
  rw [spread_apply, shapeCast_apply _ castsSelf (ix2 p 0) (ix2 p 0) rfl]
  by_cases h : l.val = k
  · subst h; simp [Scalar.select]
  · have : ¬ BitVec.ofNat 32 (0 * 128 + l.val) = BitVec.ofNat 32 k := fun e => h (by
      have := congrArg BitVec.toNat e; simp only [BitVec.toNat_ofNat] at this; omega)
    rw [show (BitVec.ofNat 32 (0 * 128 + l.val) == BitVec.ofNat 32 k) = false from beq_eq_false_iff_ne.2 this, if_neg h]; rfl

/-! ## The bytes -/

theorem castsWords : Rows.Bitcasts 8 Words 32 := by decide
theorem castsRows : Words.Bitcasts 32 Rows 8 := by decide
theorem castsColumn : Words.ShapeCasts ⟨3, ![8, 128, 1]⟩ := by decide
theorem castsColumn' : (⟨3, ![8, 128, 1]⟩ : Shape).ShapeCasts Words := by decide
theorem spreadsWords : Words.Broadcasts Words := by decide
theorem lanes : Words.Iotas .tc 32 [1] := by decide
theorem rotates : Words.Rotates 1 none := by decide

/-- The codes as words of four bytes. -/
def wordsOf (c : FVec Ideal Rows .f32) : IVec Words 32 :=
  bitcast Words 32 (trunci 8 (fptosi 32 c) (by decide)) castsWords

def lane : IVec Words 32 := iota .tc Words 32 [1] lanes

/-- The lanes of the first half. -/
def firstHalf : IVec Words 1 := cmpi .slt lane (broadcast Words 64#32)

/-- A modulus, 1 in the place of 0. -/
def modulus : BitVec 32 := Scalar.select (Scalar.cmpi .eq 128#32 0#32) 1#32 128#32

/-- The remainder of twice the lane by the modulus, made to have the modulus's sign. -/
def twiceLane : IVec Words 32 :=
  let r := remsi (muli (broadcast Words 2#32) lane) (broadcast Words modulus)
  select
    (andi (xori (cmpi .slt r (broadcast Words 0#32)) (broadcastTo Words (broadcast Words (Scalar.cmpi .slt modulus 0#32)) spreadsWords))
      (cmpi .ne r (broadcast Words 0#32)))
    (addi r (broadcast Words modulus)) r

def evenFirst : IVec Words 32 := select firstHalf twiceLane (addi twiceLane (broadcast Words 1#32))
def oddFirst : IVec Words 32 := select firstHalf (addi twiceLane (broadcast Words 1#32)) twiceLane

/-- The words at the lanes `i`, a negative lane counted from the end. -/
def takeLanes (w : IVec Words 32) (i : IVec Words 32) : IVec Words 32 :=
  dynamicGather 1 w (shapeCast Words (shapeCast ⟨3, ![8, 128, 1]⟩
    (select (cmpi .slt i (broadcast Words 0#32)) (addi i (broadcast Words 128#32)) i) castsColumn) castsColumn')

/-- The packed words of two groups' words. -/
def packWords (w0 w1 : IVec Words 32) : IVec Words 32 :=
  ori (select firstHalf (takeLanes w0 evenFirst) (takeLanes w1 oddFirst))
    (shli (dynamicRotate 1 64#32 none (select firstHalf (takeLanes w1 oddFirst) (takeLanes w0 evenFirst)) rotates)
      (broadcast Words 4#32))

/-- The packed bytes of two groups' codes. -/
def packRows (c0 c1 : FVec Ideal Rows .f32) : IVec Rows 8 :=
  bitcast Rows 8 (packWords (wordsOf c0) (wordsOf c1)) castsRows

end Cert.GateUp

end
-- ==== Proof.Requant.lean ====
/-
  A BLOCK OF THE KERNEL'S RESULTS, QUANTISED. Each 32 rows of a round's gated product are quantised as they are written, group by
  group: 96 stores of bytes, and once a round the statistics of its 512 rows, gathered in lanes and turned.
-/
module

public import proofs.«01_k».proof.Proof.Block
public import proofs.«01_k».proof.Proof.Quantiser

@[expose] public section

noncomputable section

namespace Cert.GateUp

open Idealize.ShloMosaic Idealize.ShloMosaic.ValueIdx Idealize.ShloMosaic.TcCoe Idealize.SL.Sem
open Cert.KernelIdeal Cert.KernelIdeal.Gen

/-- The gated product of two boxes of the accumulators. -/
def gatedRows (g u : Vec Ideal S32x128 .f32) : FVec Ideal Rows .f32 :=
  extf .f32 (truncf .bf16 (mulf (mulf g (divf (broadcast Rows (Scalar.ofBits .f32 0x3F800000#32))
    (addf (broadcast Rows (Scalar.ofBits .f32 0x3F800000#32))
      (exp (subf (broadcast Rows (Scalar.ofBits .f32 0x00000000#32)) g))))) u) (by decide)) (by decide)

theorem gatedRows_apply (g u : Vec Ideal S32x128 .f32) (y : Rows.Idx) : gatedRows g u y = gated (g y) (u y) := by
  show g y * Ideal.div (Ideal.ofBits .f32 0x3F800000#32)
    (Ideal.ofBits .f32 0x3F800000#32 + Ideal.exp (Ideal.ofBits .f32 0x00000000#32 - g y)) * u y = _
  rw [Ideal.ofBits_zero_f32, zero_sub]
  rfl

/-- The rows of a round's statistics, one below the other. -/
theorem joins : Shape.Concatenates ((List.ofFn fun _ : Fin 16 => Rows)) ⟨2, ![512, 128]⟩ 0 := by decide
theorem joinsRows (f : Fin 16 → FVec Ideal Rows .f32) :
    Shape.Concatenates ((List.ofFn fun n : Fin 16 => (⟨Rows, f n⟩ : (s : Shape) × (s.Idx → EReal))).map (·.1)) ⟨2, ![512, 128]⟩ 0 :=
  joins

/-- The statistics of 512 rows turned: lanes `o .. o + 4` as rows. -/
def turned (f : Fin 16 → FVec Ideal Rows .f32) (o : Nat) (ho : (⟨2, ![128, 512]⟩ : Shape).Slices ![o, 0] ⟨2, ![4, 512]⟩) :
    Vec Ideal S1x1x4x512 .f32 :=
  shapeCast ⟨4, ![1, 1, 4, 512]⟩ (extractStridedSlice ⟨2, ![4, 512]⟩ ![o, 0] (transpose ⟨2, ![128, 512]⟩ [1, 0]
    (concatenate ⟨2, ![512, 128]⟩ 0 (List.ofFn fun n : Fin 16 => (⟨Rows, f n⟩ : (s : Shape) × (s.Idx → EReal))) (joinsRows f))
    (by decide)) ho) (by decide)

section Rounds

variable (arg2 : Memref sig .tc .vmem S1x1536x3584 .bf16) (harg2 : arg2.IsWhole)
  (arg3 : Memref sig .tc .vmem S2x1792x512 .i8) (harg3 : arg3.IsWhole)
  (arg4 : Memref sig .tc .vmem S2x28x512 .f32) (harg4 : arg4.IsWhole)
  (arg9 arg10 : Memref sig .tc .vmem S3584x512 .bf16) (arg11 arg12 : Memref sig .tc .vmem S512x512 .f32)
  (x0 : Vec Ideal S1x1536x3584 .bf16) (x1 : Vec Ideal S2x1792x512 .i8) (x2 : Vec Ideal S2x28x512 .f32)

/-- Group `g` of the 32 rows from row `32 R` of the block. -/
def groupRows (wg wu : Vec Ideal S3584x512 .bf16) (R : Nat) (hR : R < 48) (g : Nat) (hg : g < 4) : FVec Ideal Rows .f32 :=
  gatedRows
    (View.readCov (Val := Elt Ideal) arg11.view (roundStores arg2 harg2 x0 wg (R / 16) (by omega))
      (Rect.unit (s := S512x512) ![32 * (R % 16), 128 * g] S32x128.size
        (by intro a; fin_cases a <;> dsimp <;> omega)).toLoadRect)
    (View.readCov (Val := Elt Ideal) arg12.view (roundStores arg2 harg2 x0 wu (R / 16) (by omega))
      (Rect.unit (s := S512x512) ![32 * (R % 16), 128 * g] S32x128.size
        (by intro a; fin_cases a <;> dsimp <;> omega)).toLoadRect)

/-- Store `n` of the bytes. -/
def byteStore (wg wu : Vec Ideal S3584x512 .bf16) (n : Fin 96) : View.Piece (Elt Ideal) S1x1536x256 .i8 :=
  ⟨Rect.unit (s := S1x1536x256) ![0, 32 * (n.val / 2), 128 * (n.val % 2)] S1x32x128.size
      (by intro a; have := n.isLt; fin_cases a <;> dsimp <;> omega),
    shapeCast ⟨3, ![1, 32, 128]⟩ (packRows
      (codeRows (groupRows arg2 harg2 arg11 arg12 x0 wg wu (n.val / 2) (by omega) (2 * (n.val % 2)) (by omega)))
      (codeRows (groupRows arg2 harg2 arg11 arg12 x0 wg wu (n.val / 2) (by omega) (2 * (n.val % 2) + 1) (by omega)))) (by decide)⟩

/-- The statistics of 32 rows of the block after their first `g` groups: the scale of group `k` in lane `k`, its zero point in lane
    `4 + k`. -/
def statRows (wg wu : Vec Ideal S3584x512 .bf16) (R : Nat) (hR : R < 48) : (g : Nat) → g ≤ 4 → FVec Ideal Rows .f32
  | 0, _ => broadcast Rows (Scalar.ofBits .f32 0x00000000#32)
  | g + 1, h => setLane (4 + g) (zeroRows (groupRows arg2 harg2 arg11 arg12 x0 wg wu R hR g h))
      (setLane g (scaleRows (groupRows arg2 harg2 arg11 arg12 x0 wg wu R hR g h)) (statRows wg wu R hR g (Nat.le_of_succ_le h)))

/-- Store `n` of the statistics found from lane `o` on. -/
def statStore (wg wu : Vec Ideal S3584x512 .bf16) (o : Nat)
    (ho : (⟨2, ![128, 512]⟩ : Shape).Slices ![o, 0] ⟨2, ![4, 512]⟩) (n : Fin 3) : View.Piece (Elt Ideal) S1x1x4x1536 .f32 :=
  ⟨Rect.unit (s := S1x1x4x1536) ![0, 0, 0, 512 * n.val] S1x1x4x512.size
      (by intro a; have := n.isLt; fin_cases a <;> dsimp <;> omega),
    turned (fun q => statRows arg2 harg2 arg11 arg12 x0 wg wu (16 * n.val + q.val) (by omega) 4 (Nat.le_refl 4)) o ho⟩

variable (c : Dev nD) (i : grid0.Coords) (arg5 : Memref sig .tc .vmem S1x1536x512 .bf16) (harg5 : arg5.IsWhole)
    (arg6 : Memref sig .tc .vmem S1x1536x256 .i8) (harg6 : arg6.IsWhole)
    (arg7 : Memref sig .tc .vmem S1x1x4x1536 .f32) (harg7 : arg7.IsWhole)
    (arg8 : Memref sig .tc .vmem S1x1x4x1536 .f32) (harg8 : arg8.IsWhole)
    (harg9 : arg9.IsWhole) (harg10 : arg10.IsWhole) (harg11 : arg11.IsWhole) (harg12 : arg12.IsWhole)

/-- The body's stores of bytes, the last one first. -/
theorem run_bytes :
    (kernelRun0_A (F := Ideal) c i arg2 harg2 arg3 harg3 arg4 harg4 arg5 harg5 arg6 harg6 arg7 harg7 arg8 harg8
        arg9 harg9 arg10 harg10 arg11 harg11 arg12 harg12 x0 x1 x2).2.1
      = List.ofFn fun n : Fin 96 => byteStore arg2 harg2 arg11 arg12 x0 (gateWeights arg3 harg3 arg4 harg4 arg9 x1 x2 c)
          (upWeights arg3 harg3 arg4 harg4 arg10 x1 x2 c) n.rev := by
  sl_kernel_rfl

theorem scaleLanes : (⟨2, ![128, 512]⟩ : Shape).Slices ![0, 0] ⟨2, ![4, 512]⟩ := by decide
theorem zeroLanes : (⟨2, ![128, 512]⟩ : Shape).Slices ![4, 0] ⟨2, ![4, 512]⟩ := by decide

/-- The body's stores of scales, the last one first. -/
theorem run_scales :
    (kernelRun0_A (F := Ideal) c i arg2 harg2 arg3 harg3 arg4 harg4 arg5 harg5 arg6 harg6 arg7 harg7 arg8 harg8
        arg9 harg9 arg10 harg10 arg11 harg11 arg12 harg12 x0 x1 x2).2.2.1
      = List.ofFn fun n : Fin 3 => statStore arg2 harg2 arg11 arg12 x0 (gateWeights arg3 harg3 arg4 harg4 arg9 x1 x2 c)
          (upWeights arg3 harg3 arg4 harg4 arg10 x1 x2 c) 0 scaleLanes n.rev := by
  sl_kernel_rfl

/-- The body's stores of zero points, the last one first. -/
theorem run_zeros :
    (kernelRun0_A (F := Ideal) c i arg2 harg2 arg3 harg3 arg4 harg4 arg5 harg5 arg6 harg6 arg7 harg7 arg8 harg8
        arg9 harg9 arg10 harg10 arg11 harg11 arg12 harg12 x0 x1 x2).2.2.2.1
      = List.ofFn fun n : Fin 3 => statStore arg2 harg2 arg11 arg12 x0 (gateWeights arg3 harg3 arg4 harg4 arg9 x1 x2 c)
          (upWeights arg3 harg3 arg4 harg4 arg10 x1 x2 c) 4 zeroLanes n.rev := by
  sl_kernel_rfl

end Rounds

end Cert.GateUp

end
-- ==== Proof.Packing.lean ====
/-
  THE PACKED BYTES AT AN ELEMENT. The kernel packs the codes of two groups as words of four bytes, one from each of four rows: lane
  `l` of the first half takes the pair of codes `2 l`, `2 l + 1` of the first group, lane `64 + l` that pair of the second. No bit of
  a code leaves its byte, because a code is below 16.
-/
module

public import proofs.«01_k».proof.Proof.Quantiser
public import Idealize.ShloMosaic.Lib.Pipeline.Value

@[expose] public section

noncomputable section

namespace Cert.GateUp

open Idealize.ShloMosaic Idealize.ShloMosaic.ValueIdx

/-- The lane that the packed lane `l` takes its low half from. -/
def evenLane (l : Fin 128) : Fin 128 := ⟨2 * (l.val % 64), by omega⟩
/-- The lane that the packed lane `l` takes its high half from. -/
def oddLane (l : Fin 128) : Fin 128 := ⟨2 * (l.val % 64) + 1, by omega⟩

theorem takeLanes_apply (w i : IVec Words 32) (a : Fin 8) (l k : Fin 128)
    (hk : (Scalar.select (IntOp.cmpi .slt (i (ix2 a l)) 0#32) (i (ix2 a l) + 128#32) (i (ix2 a l))).toNat % 128 = k.val) :
    takeLanes w i (ix2 a l) = w (ix2 a k) := by
  unfold takeLanes
  rw [shapeCast_shapeCast]
  refine congrArg w (funext fun b => ?_)
  match b with
  | ⟨0, _⟩ => exact Fin.ext rfl
  | ⟨1, _⟩ => exact Fin.ext hk

theorem evenFirst_lane (a : Fin 8) (l : Fin 128) :
    (Scalar.select (IntOp.cmpi .slt (evenFirst (ix2 a l)) 0#32) (evenFirst (ix2 a l) + 128#32) (evenFirst (ix2 a l))).toNat % 128
      = if l.val < 64 then 2 * l.val else 2 * (l.val - 64) + 1 := by
  rw [show evenFirst (ix2 a l) = evenFirst (ix2 0 l) from rfl]
  revert l; decide +kernel

theorem oddFirst_lane (a : Fin 8) (l : Fin 128) :
    (Scalar.select (IntOp.cmpi .slt (oddFirst (ix2 a l)) 0#32) (oddFirst (ix2 a l) + 128#32) (oddFirst (ix2 a l))).toNat % 128
      = if l.val < 64 then 2 * l.val + 1 else 2 * (l.val - 64) := by
  rw [show oddFirst (ix2 a l) = oddFirst (ix2 0 l) from rfl]
  revert l; decide +kernel

theorem firstHalf_apply (a : Fin 8) (l : Fin 128) : firstHalf (ix2 a l) = if l.val < 64 then 1#1 else 0#1 := by
  rw [show firstHalf (ix2 a l) = firstHalf (ix2 0 l) from rfl]
  revert l; decide +kernel

/-- A packed word: the pair of words of its lane, the second shifted up by four bits. -/
theorem packWords_apply (w0 w1 : IVec Words 32) (a : Fin 8) (l : Fin 128) :
    packWords w0 w1 (ix2 a l)
      = (if l.val < 64 then w0 else w1) (ix2 a (evenLane l)) ||| ((if l.val < 64 then w0 else w1) (ix2 a (oddLane l)) <<< 4) := by
  have hl := l.isLt
  have e4 (x : BitVec 32) : IntOp.shli .vector x 4#32 = x <<< 4 := rfl
  show Scalar.select (firstHalf (ix2 a l)) (takeLanes w0 evenFirst (ix2 a l)) (takeLanes w1 oddFirst (ix2 a l))
    ||| IntOp.shli .vector (dynamicRotate 1 64#32 none (select firstHalf (takeLanes w1 oddFirst) (takeLanes w0 evenFirst)) rotates (ix2 a l))
      4#32 = _
  rw [e4]
  by_cases h : l.val < 64
  · rw [dynamicRotate_apply 1 64#32 _ rotates (ix2 a l) (ix2 a ⟨l.val + 64, by omega⟩) (fun b => by
      match b with
      | ⟨0, _⟩ => rfl
      | ⟨1, _⟩ => show l.val + 64 = (l.val + 128 - 64) % 128; omega)]
    show Scalar.select (firstHalf (ix2 a l)) (takeLanes w0 evenFirst (ix2 a l)) (takeLanes w1 oddFirst (ix2 a l))
      ||| (Scalar.select (firstHalf (ix2 a _)) (takeLanes w1 oddFirst (ix2 a _)) (takeLanes w0 evenFirst (ix2 a _)) <<< 4) = _
    rw [firstHalf_apply, firstHalf_apply, if_pos h, if_neg (by show ¬ l.val + 64 < 64; omega), if_pos h,
      takeLanes_apply w0 evenFirst a l (evenLane l) ((evenFirst_lane a l).trans (by
        rw [if_pos h]; show 2 * l.val = 2 * (l.val % 64); omega)),
      takeLanes_apply w0 evenFirst a ⟨l.val + 64, by omega⟩ (oddLane l) ((evenFirst_lane a _).trans (by
        rw [if_neg (by show ¬ l.val + 64 < 64; omega)]; show 2 * (l.val + 64 - 64) + 1 = 2 * (l.val % 64) + 1; omega))]
    rfl
  · rw [dynamicRotate_apply 1 64#32 _ rotates (ix2 a l) (ix2 a ⟨l.val - 64, by omega⟩) (fun b => by
      match b with
      | ⟨0, _⟩ => rfl
      | ⟨1, _⟩ => show l.val - 64 = (l.val + 128 - 64) % 128; omega)]
    show Scalar.select (firstHalf (ix2 a l)) (takeLanes w0 evenFirst (ix2 a l)) (takeLanes w1 oddFirst (ix2 a l))
      ||| (Scalar.select (firstHalf (ix2 a _)) (takeLanes w1 oddFirst (ix2 a _)) (takeLanes w0 evenFirst (ix2 a _)) <<< 4) = _
    rw [firstHalf_apply, firstHalf_apply, if_neg h, if_pos (by show l.val - 64 < 64; omega), if_neg h,
      takeLanes_apply w1 oddFirst a l (evenLane l) ((oddFirst_lane a l).trans (by
        rw [if_neg h]; show 2 * (l.val - 64) = 2 * (l.val % 64); omega)),
      takeLanes_apply w1 oddFirst a ⟨l.val - 64, by omega⟩ (oddLane l) ((oddFirst_lane a _).trans (by
        rw [if_pos (by show l.val - 64 < 64; omega)]; show 2 * (l.val - 64) + 1 = 2 * (l.val % 64) + 1; omega))]
    rfl

/-- A word below 16 has no bit from the fourth on. -/
theorem small_bit (k : Fin 16) (q : Nat) (h : 4 ≤ q) : (BitVec.ofNat 32 k.val).getLsbD q = false := by
  by_cases hq : q < 32
  · have : ∀ k : Fin 16, ∀ q : Fin 32, 4 ≤ q.val → (BitVec.ofNat 32 k.val).getLsbD q.val = false := by decide +kernel
    exact this k ⟨q, hq⟩ h
  · exact BitVec.getLsbD_of_ge _ _ (by omega)

/-- A bit of a word of four bytes. -/
theorem wordsOf_bit (c : FVec Ideal Rows .f32) (a : Fin 8) (l : Fin 128) (q : Nat) (hq : q < 32) (p : Fin 32) (hp : p.val = 4 * a.val + q / 8) :
    (wordsOf c (ix2 a l)).getLsbD q = (Ideal.fptosi 32 (c (ix2 p l))).getLsbD (q % 8) := by
  unfold wordsOf
  rw [bitcast_8_32_getLsbD_ix2 _ castsWords a l q hq p hp]
  show ((Ideal.fptosi 32 (c (ix2 p l))).setWidth 8).getLsbD (q % 8) = _
  rw [BitVec.getLsbD_setWidth, decide_eq_true (show q % 8 < 8 by omega), Bool.true_and]

/-- The packed byte at row `p` and lane `l`: the byte of the pair of codes of its lane, of the first group in the first half. -/
theorem packRows_apply (c0 c1 : FVec Ideal Rows .f32) (h0 : ∀ y, ∃ k : Fin 16, Ideal.fptosi 32 (c0 y) = BitVec.ofNat 32 k.val)
    (h1 : ∀ y, ∃ k : Fin 16, Ideal.fptosi 32 (c1 y) = BitVec.ofNat 32 k.val) (p : Fin 32) (l : Fin 128) :
    packRows c0 c1 (ix2 p l)
      = byteOf ((if l.val < 64 then c0 else c1) (ix2 p (evenLane l))) ((if l.val < 64 then c0 else c1) (ix2 p (oddLane l))) := by
  have hp := p.isLt
  have hc : ∀ y, ∃ k : Fin 16, Ideal.fptosi 32 ((if l.val < 64 then c0 else c1) y) = BitVec.ofNat 32 k.val := by
    intro y; split
    · exact h0 y
    · exact h1 y
  have hw : packWords (wordsOf c0) (wordsOf c1) (ix2 ⟨p.val / 4, by omega⟩ l)
      = wordsOf (if l.val < 64 then c0 else c1) (ix2 ⟨p.val / 4, by omega⟩ (evenLane l))
        ||| (wordsOf (if l.val < 64 then c0 else c1) (ix2 ⟨p.val / 4, by omega⟩ (oddLane l)) <<< 4) := by
    rw [packWords_apply]; split <;> rfl
  generalize (if l.val < 64 then c0 else c1) = C at hc hw ⊢
  apply BitVec.eq_of_getLsbD_eq
  intro q hq
  unfold packRows
  rw [bitcast_getLsbD _ castsRows _ q hq (by decide)]
  have hrow : Rows.row (ix2 p l) = p.val := rfl
  have hi : castsRows.srcIdx (ix2 p l) ((Rows.row (ix2 p l) * 8 + q) / 32)
      (fun a ha => (Nat.div_lt_iff_lt_mul (by decide)).2 (castsRows.pos_lt (ix2 p l) q hq a ha)) = ix2 ⟨p.val / 4, by omega⟩ l := by
    funext b
    match b with
    | ⟨0, _⟩ => exact Fin.ext ((castsRows.srcIdx_row _ _ _ ⟨0, Nat.zero_lt_two⟩ rfl).trans (by
        rw [hrow]; show (p.val * 8 + q) / 32 = p.val / 4; omega))
    | ⟨1, _⟩ => exact Fin.ext (castsRows.srcIdx_other _ _ _ ⟨1, Nat.one_lt_two⟩ (by show ¬ 1 + 2 = 2; omega))
  rw [hi, hrow, hw]
  unfold byteOf
  rw [BitVec.getLsbD_setWidth, decide_eq_true hq, Bool.true_and, BitVec.getLsbD_or, BitVec.getLsbD_or,
    wordsOf_bit C _ _ _ (by omega) p (by show p.val = 4 * (p.val / 4) + _; omega),
    show (p.val * 8 + q) % 32 % 8 = q by omega, BitVec.getLsbD_shiftLeft, BitVec.getLsbD_shiftLeft]
  congr 1
  by_cases h4 : q < 4
  · rw [decide_eq_true h4]
    by_cases hz : (p.val * 8 + q) % 32 < 4
    · simp [hz]
    · obtain ⟨k, hk⟩ := hc (ix2 ⟨p.val - 1, by omega⟩ (oddLane l))
      rw [wordsOf_bit C _ _ _ (by omega) ⟨p.val - 1, by omega⟩ (by
        show p.val - 1 = 4 * (p.val / 4) + ((p.val * 8 + q) % 32 - 4) / 8; omega), hk, small_bit k _ (by omega)]
      simp
  · rw [wordsOf_bit C _ _ _ (by omega) p (by show p.val = 4 * (p.val / 4) + ((p.val * 8 + q) % 32 - 4) / 8; omega),
      show ((p.val * 8 + q) % 32 - 4) % 8 = q - 4 by omega, decide_eq_false h4,
      decide_eq_false (show ¬ (p.val * 8 + q) % 32 < 4 by omega), decide_eq_true (show (p.val * 8 + q) % 32 < 32 by omega),
      decide_eq_true (show q < 32 by omega)]

end Cert.GateUp

end
-- ==== Proof.Groups.lean ====
/-
  ROWS IN GROUPS of 128 numbers: a row's group, the byte of two neighbouring codes of a row, and the host's least and largest
  of the last axis of an array of groups.
-/
module

public import proofs.«01_k».proof.Proof.Codes
public import Idealize.ShloMosaic.Lib.ValueIdx
public import Idealize.ShloMosaic.Lib.KernelVsHost

@[expose] public section

noncomputable section

namespace Cert.GateUp

open Idealize.ShloMosaic Idealize.ShloMosaic.ValueIdx

/-- Group `g` of a row of `N` numbers. -/
def groupOf {N : Nat} (h : Fin N → EReal) (g : Nat) (hg : 128 * g + 128 ≤ N) (k : Fin 128) : EReal :=
  h ⟨128 * g + k.val, by omega⟩

/-- Byte `l` of a row's packed codes: of numbers `2 l` and `2 l + 1`, both of group `l / 64`. -/
def rowByte {N : Nat} (h : Fin N → EReal) (l : Nat) (hl : 128 * (l / 64) + 128 ≤ N) : BitVec 8 :=
  byteOf (codeOf (groupOf h (l / 64) hl) (h ⟨2 * l, by omega⟩)) (codeOf (groupOf h (l / 64) hl) (h ⟨2 * l + 1, by omega⟩))

section Host

variable {a b c : Nat}

theorem reducesGroups (h : (⟨4, ![a, b, c, 128]⟩ : Shape).ReducesTo [3] ⟨3, ![a, b, c]⟩) :
    (⟨4, ![a, b, c, 128]⟩ : Shape).Reduces [3] ⟨3, ![a, b, c]⟩ := ⟨rfl, by show 0 < 3; omega, h.2⟩

theorem groups_lift (h : (⟨4, ![a, b, c, 128]⟩ : Shape).Reduces [3] ⟨3, ![a, b, c]⟩) (i : Fin a) (j : Fin b) (k : Fin c)
    (l : Fin 128) : h.lift (ix3 i j k) l = ix4 i j k l := by
  funext q
  match q with
  | ⟨0, _⟩ => exact Fin.ext rfl
  | ⟨1, _⟩ => exact Fin.ext rfl
  | ⟨2, _⟩ => exact Fin.ext rfl
  | ⟨3, _⟩ => exact Fin.ext rfl

/-- The host's minimum along the last axis. -/
theorem host_min {u : Shape} (x : FVec Ideal ⟨4, ![a, b, c, 128]⟩ .f32)
    (h : (⟨4, ![a, b, c, 128]⟩ : Shape).ReducesTo [3] ⟨3, ![a, b, c]⟩) (hu : 0 < u.numel) (i : Fin a) (j : Fin b) (k : Fin c) :
    Host.reduce FloatOps.minimumf x (constant u .f32 0x7F800000#32) h hu (ix3 i j k)
      = (Finset.univ : Finset (Fin 128)).fold min (Ideal.ofBits .f32 0x7F800000#32) fun l => x (ix4 i j k l) := by
  refine (congrFun (hostReduce_minimumf_eq_multiReduction x _ h hu (reducesGroups h) (.inl rfl) rfl) _).trans ?_
  refine (multiReduction_minimumf_eq_fold (F := Ideal) _ _ (reducesGroups h) (.inl rfl) rfl _).trans ?_
  refine ((reducesGroups h).fold_filter_drop_single _ _ x (ix3 i j k)).trans ?_
  exact congrArg (Finset.fold min _ · _) (funext fun l => congrArg x (groups_lift _ i j k l))

/-- The host's maximum along the last axis. -/
theorem host_max {u : Shape} (x : FVec Ideal ⟨4, ![a, b, c, 128]⟩ .f32)
    (h : (⟨4, ![a, b, c, 128]⟩ : Shape).ReducesTo [3] ⟨3, ![a, b, c]⟩) (hu : 0 < u.numel) (i : Fin a) (j : Fin b) (k : Fin c) :
    Host.reduce FloatOps.maximumf x (constant u .f32 0xFF800000#32) h hu (ix3 i j k)
      = (Finset.univ : Finset (Fin 128)).fold max (Ideal.ofBits .f32 0xFF800000#32) fun l => x (ix4 i j k l) := by
  refine (congrFun (hostReduce_maximumf_eq_multiReduction x _ h hu (reducesGroups h) (.inl rfl) rfl) _).trans ?_
  refine (multiReduction_maximumf_eq_fold (F := Ideal) _ _ (reducesGroups h) (.inl rfl) rfl _).trans ?_
  refine ((reducesGroups h).fold_filter_drop_single _ _ x (ix3 i j k)).trans ?_
  exact congrArg (Finset.fold max _ · _) (funext fun l => congrArg x (groups_lift _ i j k l))

end Host

/-- The bounds of the clip as the host writes them. -/
theorem sitofp_fifteen : FloatOps.sitofp (F := Ideal) .f32 15#32 = Ideal.ofBits .f32 0x41700000#32 := by
  rw [fifteen]
  show (((15#32 : BitVec 32).toInt : ℝ) : EReal) = _
  rw [show (15#32 : BitVec 32).toInt = 15 from rfl]; norm_num

theorem sitofp_none : FloatOps.sitofp (F := Ideal) .f32 0#32 = 0 := by
  show (((0#32 : BitVec 32).toInt : ℝ) : EReal) = _
  rw [show (0#32 : BitVec 32).toInt = 0 from rfl]; norm_num

end Cert.GateUp

end
-- ==== Proof.BlockQuant.lean ====
/-
  ONE BLOCK OF THE KERNEL'S QUANTISED RESULTS: the bytes, the scales and the zero points that a grid point leaves are those of the
  rows of its block of results, group by group.
-/
module

public import proofs.«01_k».proof.Proof.Requant
public import proofs.«01_k».proof.Proof.Packing
public import proofs.«01_k».proof.Proof.Groups

@[expose] public section

noncomputable section

namespace Cert.GateUp

open Idealize.ShloMosaic Idealize.ShloMosaic.TcCoe Idealize.SL.Sem
open Cert.KernelIdeal Cert.KernelIdeal.Gen
open Idealize.ShloMosaic.ValueIdx (ix1 ix2 ix3)

/-- A row of 32 in a column of statistics: the statistics of 512 rows turned, at an element. -/
theorem turned_apply (f : Fin 16 → FVec Ideal Rows .f32) (o : Nat) (ho : (⟨2, ![128, 512]⟩ : Shape).Slices ![o, 0] ⟨2, ![4, 512]⟩)
    (x : S1x1x4x512.Idx) (n : Fin 16) (hn : (x 3).val / 32 = n.val) (p : Fin 32) (hp : (x 3).val % 32 = p.val)
    (l : Fin 128) (hl : l.val = o + (x 2).val) : turned f o ho x = f n (ix2 p l) := by
  have h0 : (x 0).val = 0 := Nat.lt_one_iff.1 (x 0).isLt
  have h1 : (x 1).val = 0 := Nat.lt_one_iff.1 (x 1).isLt
  have h2 : (x 2).val < 4 := (x 2).isLt
  have h3 : (x 3).val < 512 := (x 3).isLt
  unfold turned
  refine (shapeCast_apply _ _ x (ix2 (n0 := 4) (n1 := 512) ⟨(x 2).val, h2⟩ ⟨(x 3).val, h3⟩) (by
    rw [Shape.rowMajor_val_four, Shape.rowMajor_val_two]
    show (x 2).val * 512 + (x 3).val = (((x 0).val * 1 + (x 1).val) * 4 + (x 2).val) * 512 + (x 3).val
    omega)).trans ?_
  refine concatenate_ofFn_apply (t := ⟨2, ![512, 128]⟩) (s₁ := Rows) 0 f (joinsRows f) rfl 32 rfl _ n ?_ (ix2 p l) ?_ ?_
  · show (0 + (x 3).val) / 32 = n.val
    omega
  · show p.val = (0 + (x 3).val) % 32
    omega
  · intro b hb
    match b with
    | ⟨0, _⟩ => exact absurd rfl hb
    | ⟨1, _⟩ => exact hl

variable (arg2 : Memref sig .tc .vmem S1x1536x3584 .bf16) (harg2 : arg2.IsWhole)
  (arg3 : Memref sig .tc .vmem S2x1792x512 .i8) (harg3 : arg3.IsWhole)
  (arg4 : Memref sig .tc .vmem S2x28x512 .f32) (harg4 : arg4.IsWhole)
  (arg9 arg10 : Memref sig .tc .vmem S3584x512 .bf16) (arg11 arg12 : Memref sig .tc .vmem S512x512 .f32)
  (x0 : Vec Ideal S1x1536x3584 .bf16) (x1 : Vec Ideal S2x1792x512 .i8) (x2 : Vec Ideal S2x28x512 .f32)

/-- Row `p` of the block of results. -/
def blockRow (p : Fin 1536) (n : Fin 512) : EReal := blockOut x0 x1 x2 (ix3 0 p n)

/-- A group of 32 rows, at an element. -/
theorem groupRows_apply (R : Nat) (hR : R < 48) (g : Nat) (hg : g < 4) (p : Fin 32) (l : Fin 128) :
    groupRows arg2 harg2 arg11 arg12 x0 (matrix x1 x2 0) (matrix x1 x2 1) R hR g hg (ix2 p l)
      = groupOf (blockRow x0 x1 x2 ⟨32 * R + p.val, by omega⟩) g (by omega) l := by
  unfold groupRows
  refine (gatedRows_apply _ _ _).trans ?_
  rw [View.readCov_eq_canon', View.readCov_eq_canon', canon_roundStores, canon_roundStores]
  refine congrArg₂ gated ?_ ?_ <;>
    exact roundSum_apply arg2 harg2 x0 x1 x2 _ _ _ _ _ _
      (by show 32 * R + p.val = 512 * (R / 16) + (32 * (R % 16) + 1 * p.val); omega)
      (by show 128 * g + l.val = 128 * g + 1 * l.val; omega)

/-- Its rows are the groups of the block's rows. -/
theorem row_groupRows (R : Nat) (hR : R < 48) (g : Nat) (hg : g < 4) (p : Fin 32) :
    row (groupRows arg2 harg2 arg11 arg12 x0 (matrix x1 x2 0) (matrix x1 x2 1) R hR g hg) p
      = groupOf (blockRow x0 x1 x2 ⟨32 * R + p.val, by omega⟩) g (by omega) :=
  funext fun l => groupRows_apply arg2 harg2 arg11 arg12 x0 x1 x2 R hR g hg p l

/-- The scale of group `k` is in lane `k`. -/
theorem statRows_scale (wg wu : Vec Ideal S3584x512 .bf16) (R : Nat) (hR : R < 48) (p : Fin 32) (k : Nat) (l : Fin 128) (hl : l.val = k) :
    (g : Nat) → (hg : g ≤ 4) → (hk : k < g) → statRows arg2 harg2 arg11 arg12 x0 wg wu R hR g hg (ix2 p l)
      = scaleOf (row (groupRows arg2 harg2 arg11 arg12 x0 wg wu R hR k (by omega)) p)
  | 0, _, hk => absurd hk (Nat.not_lt_zero _)
  | g + 1, hg, hk => by
    rw [statRows, setLane_apply _ (by omega), if_neg (by omega), setLane_apply _ (by omega)]
    by_cases h : l.val = g
    · obtain rfl : k = g := by omega
      rw [if_pos h, scaleRows_apply]
    · rw [if_neg h]
      exact statRows_scale wg wu R hR p k l hl g (by omega) (by omega)

/-- The zero point of group `k` is in lane `4 + k`. -/
theorem statRows_zero (wg wu : Vec Ideal S3584x512 .bf16) (R : Nat) (hR : R < 48) (p : Fin 32) (k : Nat) (l : Fin 128) (hl : l.val = 4 + k) :
    (g : Nat) → (hg : g ≤ 4) → (hk : k < g) → statRows arg2 harg2 arg11 arg12 x0 wg wu R hR g hg (ix2 p l)
      = zeroOf (row (groupRows arg2 harg2 arg11 arg12 x0 wg wu R hR k (by omega)) p)
  | 0, _, hk => absurd hk (Nat.not_lt_zero _)
  | g + 1, hg, hk => by
    rw [statRows, setLane_apply _ (by omega)]
    by_cases h : l.val = 4 + g
    · obtain rfl : k = g := by omega
      rw [if_pos h, zeroRows_apply]
    · rw [if_neg h, setLane_apply _ (by omega), if_neg (by omega)]
      exact statRows_zero wg wu R hR p k l hl g (by omega) (by omega)

/-- The block of bytes. -/
def blockBytes (j : S1x1536x256.Idx) : BitVec 8 :=
  rowByte (blockRow x0 x1 x2 (j 1)) (j 2).val (by have : (j 2).val < 256 := (j 2).isLt; omega)

/-- The block of scales. -/
def blockScales (j : S1x1x4x1536.Idx) : EReal :=
  scaleOf (groupOf (blockRow x0 x1 x2 (j 3)) (j 2).val (by have : (j 2).val < 4 := (j 2).isLt; omega))

/-- The block of zero points. -/
def blockZeros (j : S1x1x4x1536.Idx) : EReal :=
  zeroOf (groupOf (blockRow x0 x1 x2 (j 3)) (j 2).val (by have : (j 2).val < 4 := (j 2).isLt; omega))

theorem codeRows_word (v : FVec Ideal Rows .f32) (y : Rows.Idx) : ∃ k : Fin 16, Ideal.fptosi 32 (codeRows v y) = BitVec.ofNat 32 k.val := by
  have e : codeRows v y = codeOf (row v (y 0)) (v (ix2 (y 0) (y 1))) :=
    (congrArg (codeRows v) (ValueIdx.eq_ix2 y)).trans (codeRows_apply v (y 0) (y 1))
  rw [e]; exact codeOf_word _ _

theorem groupOf_congr {N : Nat} (h : Fin N → EReal) {g g' : Nat} (e : g = g') (hg : 128 * g + 128 ≤ N) (hg' : 128 * g' + 128 ≤ N) :
    groupOf h g hg = groupOf h g' hg' := by subst e; rfl

/-- The packed bytes of two groups that lie side by side in the rows `h`. -/
theorem packed_groups {N : Nat} (h : Fin 32 → Fin N → EReal) (v0 v1 : FVec Ideal Rows .f32) (g : Nat) (hg : 256 * g + 256 ≤ N)
    (h0 : ∀ p l, v0 (ix2 p l) = groupOf (h p) (2 * g) (by omega) l) (h1 : ∀ p l, v1 (ix2 p l) = groupOf (h p) (2 * g + 1) (by omega) l)
    (p : Fin 32) (l : Fin 128) (L : Nat) (hL : L = 128 * g + l.val) :
    packRows (codeRows v0) (codeRows v1) (ix2 p l) = rowByte (h p) L (by omega) := by
  subst hL
  have hl := l.isLt
  have r0 : row v0 p = groupOf (h p) (2 * g) (by omega) := funext fun l => h0 p l
  have r1 : row v1 p = groupOf (h p) (2 * g + 1) (by omega) := funext fun l => h1 p l
  rw [packRows_apply _ _ (codeRows_word v0) (codeRows_word v1)]
  unfold rowByte
  by_cases hh : l.val < 64
  · rw [if_pos hh, codeRows_apply, codeRows_apply, r0, h0, h0,
      groupOf_congr (h p) (show (128 * g + l.val) / 64 = 2 * g by omega) _ (by omega)]
    exact congrArg₂ (fun y z => byteOf (codeOf _ y) (codeOf _ z))
      (congrArg (h p) (Fin.ext (by show 128 * (2 * g) + 2 * (l.val % 64) = 2 * (128 * g + l.val); omega)))
      (congrArg (h p) (Fin.ext (by show 128 * (2 * g) + (2 * (l.val % 64) + 1) = 2 * (128 * g + l.val) + 1; omega)))
  · rw [if_neg hh, codeRows_apply, codeRows_apply, r1, h1, h1,
      groupOf_congr (h p) (show (128 * g + l.val) / 64 = 2 * g + 1 by omega) _ (by omega)]
    exact congrArg₂ (fun y z => byteOf (codeOf _ y) (codeOf _ z))
      (congrArg (h p) (Fin.ext (by show 128 * (2 * g + 1) + 2 * (l.val % 64) = 2 * (128 * g + l.val); omega)))
      (congrArg (h p) (Fin.ext (by show 128 * (2 * g + 1) + (2 * (l.val % 64) + 1) = 2 * (128 * g + l.val) + 1; omega)))

theorem rowByte_congr {N : Nat} {h h' : Fin N → EReal} (eh : h = h') {l l' : Nat} (e : l = l')
    (hl : 128 * (l / 64) + 128 ≤ N) (hl' : 128 * (l' / 64) + 128 ≤ N) : rowByte h l hl = rowByte h' l' hl' := by subst eh e; rfl

/-- Rows of bytes as a block. -/
theorem bytes_cast_apply (v : IVec Rows 8) (h : Rows.ShapeCasts ⟨3, ![1, 32, 128]⟩) (x : S1x32x128.Idx) :
    shapeCast ⟨3, ![1, 32, 128]⟩ v h x = v (ix2 (n0 := 32) (n1 := 128) (x 1) (x 2)) :=
  shapeCast_apply _ _ x _ (by
    have h0 : (x 0).val = 0 := Nat.lt_one_iff.1 (x 0).isLt
    rw [Shape.rowMajor_val_three, Shape.rowMajor_val_two]
    show (x 1).val * 128 + (x 2).val = ((x 0).val * 32 + (x 1).val) * 128 + (x 2).val
    omega)

/-- A store of bytes agrees with the block. -/
theorem byteStore_apply (n : Fin 96) (x : S1x32x128.Idx) :
    (byteStore arg2 harg2 arg11 arg12 x0 (matrix x1 x2 0) (matrix x1 x2 1) n).2 x
      = blockBytes x0 x1 x2 ((byteStore arg2 harg2 arg11 arg12 x0 (matrix x1 x2 0) (matrix x1 x2 1) n).1.emb x) := by
  have hn := n.isLt
  have h1 : (x 1).val < 32 := (x 1).isLt
  have h2 : (x 2).val < 128 := (x 2).isLt
  unfold byteStore
  refine (bytes_cast_apply (packRows _ _) _ x).trans ?_
  refine (packed_groups (N := 512) (fun p => blockRow x0 x1 x2 ⟨32 * (n.val / 2) + p.val, by omega⟩) _ _ (n.val % 2) (by omega)
    (fun p l => groupRows_apply arg2 harg2 arg11 arg12 x0 x1 x2 _ _ _ _ p l)
    (fun p l => groupRows_apply arg2 harg2 arg11 arg12 x0 x1 x2 _ _ _ _ p l)
    (x 1) (x 2) (128 * (n.val % 2) + (x 2).val) rfl).trans ?_
  exact rowByte_congr (congrArg (blockRow x0 x1 x2) (Fin.ext (by
      show 32 * (n.val / 2) + (x 1).val = 32 * (n.val / 2) + 1 * (x 1).val; omega)))
    (by show 128 * (n.val % 2) + (x 2).val = 128 * (n.val % 2) + 1 * (x 2).val; omega) _ _

/-- A store of scales agrees with the block. -/
theorem scaleStore_apply (n : Fin 3) (x : S1x1x4x512.Idx) :
    (statStore arg2 harg2 arg11 arg12 x0 (matrix x1 x2 0) (matrix x1 x2 1) 0 scaleLanes n).2 x
      = blockScales x0 x1 x2 ((statStore arg2 harg2 arg11 arg12 x0 (matrix x1 x2 0) (matrix x1 x2 1) 0 scaleLanes n).1.emb x) := by
  have hn := n.isLt
  have h2 : (x 2).val < 4 := (x 2).isLt
  have h3 : (x 3).val < 512 := (x 3).isLt
  unfold statStore
  refine (turned_apply _ 0 scaleLanes x ⟨(x 3).val / 32, by omega⟩ rfl ⟨(x 3).val % 32, by omega⟩ rfl ⟨(x 2).val, by omega⟩
    (Nat.zero_add _).symm).trans ?_
  refine (statRows_scale arg2 harg2 arg11 arg12 x0 _ _ _ _ _ (x 2).val _ rfl 4 (Nat.le_refl 4) h2).trans ?_
  rw [row_groupRows]
  exact congrArg scaleOf ((congrArg (fun r => groupOf (blockRow x0 x1 x2 r) (x 2).val _) (Fin.ext (by
      show 32 * (16 * n.val + (x 3).val / 32) + (x 3).val % 32 = 512 * n.val + 1 * (x 3).val; omega))).trans
    (groupOf_congr _ (by show (x 2).val = 0 + 1 * (x 2).val; omega) _ _))

/-- A store of zero points agrees with the block. -/
theorem zeroStore_apply (n : Fin 3) (x : S1x1x4x512.Idx) :
    (statStore arg2 harg2 arg11 arg12 x0 (matrix x1 x2 0) (matrix x1 x2 1) 4 zeroLanes n).2 x
      = blockZeros x0 x1 x2 ((statStore arg2 harg2 arg11 arg12 x0 (matrix x1 x2 0) (matrix x1 x2 1) 4 zeroLanes n).1.emb x) := by
  have hn := n.isLt
  have h2 : (x 2).val < 4 := (x 2).isLt
  have h3 : (x 3).val < 512 := (x 3).isLt
  unfold statStore
  refine (turned_apply _ 4 zeroLanes x ⟨(x 3).val / 32, by omega⟩ rfl ⟨(x 3).val % 32, by omega⟩ rfl ⟨4 + (x 2).val, by omega⟩
    rfl).trans ?_
  refine (statRows_zero arg2 harg2 arg11 arg12 x0 _ _ _ _ _ (x 2).val _ rfl 4 (Nat.le_refl 4) h2).trans ?_
  rw [row_groupRows]
  exact congrArg zeroOf ((congrArg (fun r => groupOf (blockRow x0 x1 x2 r) (x 2).val _) (Fin.ext (by
      show 32 * (16 * n.val + (x 3).val / 32) + (x 3).val % 32 = 512 * n.val + 1 * (x 3).val; omega))).trans
    (groupOf_congr _ (by show (x 2).val = 0 + 1 * (x 2).val; omega) _ _))

variable (c : Dev nD) (i : grid0.Coords) (arg5 : Memref sig .tc .vmem S1x1536x512 .bf16) (harg5 : arg5.IsWhole)
    (arg6 : Memref sig .tc .vmem S1x1536x256 .i8) (harg6 : arg6.IsWhole)
    (arg7 : Memref sig .tc .vmem S1x1x4x1536 .f32) (harg7 : arg7.IsWhole)
    (arg8 : Memref sig .tc .vmem S1x1x4x1536 .f32) (harg8 : arg8.IsWhole)
    (harg9 : arg9.IsWhole) (harg10 : arg10.IsWhole) (harg11 : arg11.IsWhole) (harg12 : arg12.IsWhole)

/-- What a grid point leaves in its block of bytes. -/
theorem out_bytes :
    out0_A_4 (F := Ideal) c i arg2 harg2 arg3 harg3 arg4 harg4 arg5 harg5 arg6 harg6 arg7 harg7 arg8 harg8
        arg9 harg9 arg10 harg10 arg11 harg11 arg12 harg12 x0 x1 x2 = blockBytes x0 x1 x2 := by
  have hcov := cover0_A_4 (F := Ideal) c i arg2 harg2 arg3 harg3 arg4 harg4 arg5 harg5 arg6 harg6 arg7 harg7 arg8 harg8
    arg9 harg9 arg10 harg10 arg11 harg11 arg12 harg12 x0 x1 x2
  have hrun := run_bytes arg2 harg2 arg3 harg3 arg4 harg4 arg9 arg10 arg11 arg12 x0 x1 x2 c i arg5 harg5 arg6 harg6 arg7 harg7
    arg8 harg8 harg9 harg10 harg11 harg12
  rw [gateWeights_eq, upWeights_eq] at hrun
  unfold out0_A_4
  rw [View.read_writes_eq_canon _ _ _ hcov]
  refine funext fun y => View.canon_apply_of_pieces (blockBytes x0 x1 x2) _ (fun p hp x => ?_) y (hcov y)
  rw [hrun] at hp
  obtain ⟨k, rfl⟩ := List.mem_ofFn.1 hp
  exact byteStore_apply arg2 harg2 arg11 arg12 x0 x1 x2 k.rev x

/-- What a grid point leaves in its block of scales. -/
theorem out_scales :
    out0_A_5 (F := Ideal) c i arg2 harg2 arg3 harg3 arg4 harg4 arg5 harg5 arg6 harg6 arg7 harg7 arg8 harg8
        arg9 harg9 arg10 harg10 arg11 harg11 arg12 harg12 x0 x1 x2 = blockScales x0 x1 x2 := by
  have hcov := cover0_A_5 (F := Ideal) c i arg2 harg2 arg3 harg3 arg4 harg4 arg5 harg5 arg6 harg6 arg7 harg7 arg8 harg8
    arg9 harg9 arg10 harg10 arg11 harg11 arg12 harg12 x0 x1 x2
  have hrun := run_scales arg2 harg2 arg3 harg3 arg4 harg4 arg9 arg10 arg11 arg12 x0 x1 x2 c i arg5 harg5 arg6 harg6 arg7 harg7
    arg8 harg8 harg9 harg10 harg11 harg12
  rw [gateWeights_eq, upWeights_eq] at hrun
  unfold out0_A_5
  rw [View.read_writes_eq_canon _ _ _ hcov]
  refine funext fun y => View.canon_apply_of_pieces (blockScales x0 x1 x2) _ (fun p hp x => ?_) y (hcov y)
  rw [hrun] at hp
  obtain ⟨k, rfl⟩ := List.mem_ofFn.1 hp
  exact scaleStore_apply arg2 harg2 arg11 arg12 x0 x1 x2 k.rev x

/-- What a grid point leaves in its block of zero points. -/
theorem out_zeros :
    out0_A_6 (F := Ideal) c i arg2 harg2 arg3 harg3 arg4 harg4 arg5 harg5 arg6 harg6 arg7 harg7 arg8 harg8
        arg9 harg9 arg10 harg10 arg11 harg11 arg12 harg12 x0 x1 x2 = blockZeros x0 x1 x2 := by
  have hcov := cover0_A_6 (F := Ideal) c i arg2 harg2 arg3 harg3 arg4 harg4 arg5 harg5 arg6 harg6 arg7 harg7 arg8 harg8
    arg9 harg9 arg10 harg10 arg11 harg11 arg12 harg12 x0 x1 x2
  have hrun := run_zeros arg2 harg2 arg3 harg3 arg4 harg4 arg9 arg10 arg11 arg12 x0 x1 x2 c i arg5 harg5 arg6 harg6 arg7 harg7
    arg8 harg8 harg9 harg10 harg11 harg12
  rw [gateWeights_eq, upWeights_eq] at hrun
  unfold out0_A_6
  rw [View.read_writes_eq_canon _ _ _ hcov]
  refine funext fun y => View.canon_apply_of_pieces (blockZeros x0 x1 x2) _ (fun p hp x => ?_) y (hcov y)
  rw [hrun] at hp
  obtain ⟨k, rfl⟩ := List.mem_ofFn.1 hp
  exact zeroStore_apply arg2 harg2 arg11 arg12 x0 x1 x2 k.rev x

end Cert.GateUp

end
-- ==== Proof.Tail.lean ====
/-
  AFTER THE CALL, the host joins the blocks of the scales and of the zero points to rows of 148 groups, puts the tokens first, and
  turns the zero points to bytes. What the two buffers hold then, from what the call leaves.
-/
module

public import proofs.«01_k».proof.Proof.Gen.KernelIdeal.Frame.Runs
public import Idealize.ShloMosaic.Lib.Pipeline.Value
public import Idealize.ShloMosaic.Lib.Claim
public import Idealize.ShloMosaic.Lib.ValueIdx

@[expose] public section

noncomputable section

namespace Cert.GateUp

open Idealize.ShloMosaic Idealize.ShloMosaic.TcCoe Idealize.SL Idealize.SL.RA Idealize.SL.Sem
open Cert.KernelIdeal Cert.KernelIdeal.Gen
open Idealize.ShloMosaic.Pipeline (Dat)

variable {F : FTy → Type} [FloatOps F]

/-- A statistic with the tokens first. -/
abbrev tokensFirst {α : Type} (x : S6x37x4x1536.Idx → α) : S6x1536x148.Idx → α :=
  transpose S6x1536x148 [0, 2, 1] (shapeCast S6x148x1536 x shapeCasts_S6x37x4x1536_S6x148x1536) transposes_S6x148x1536_S6x1536x148_0_2_1

/-- The zero points as bytes. -/
abbrev asBytes (x : FVec F S6x1536x148 .f32) : IVec S6x1536x148 8 := trunci 8 (fptosi 32 x) natLt_8_32

/-- The scales at the end, from the buffers after the call. -/
theorem after_scales (W : Valuation τ sig (Elt F)) :
    StableHlo.after [hostOps1].flatten W (Proc.devRef .tc main_v4) = tokensFirst (W (Proc.devRef .tc main_v2_2)) := by
  simp only [hostOps1, List.flatten_cons, List.flatten_nil, List.append_nil]
  after_results
  rfl

/-- The zero points at the end, from the buffers after the call. -/
theorem after_zeros (W : Valuation τ sig (Elt F)) :
    StableHlo.after [hostOps1].flatten W (Proc.devRef .tc main_v8) = asBytes (tokensFirst (W (Proc.devRef .tc main_v2_3))) := by
  simp only [hostOps1, List.flatten_cons, List.flatten_nil, List.append_nil]
  after_results
  rfl

variable (m : (ℓ : Loc nD τ sig) → Buf (Elt F) ℓ)

theorem tail_scales (dats : (p : Fin 1) → (c : Dev nD) → Dat τ (Elt F) Unit ℕ (UR sig nD τ) ℕ (cfgs p) c) (c : Dev nD) :
    Pipeline.afterTail₀ cfgs dats 0 (V0 m) [hostOps1] c main_v4 = tokensFirst ((dats 0 c).arrAt 5 cfg0.N) :=
  (after_scales _).trans (congrArg tokensFirst (Pipeline.withArrays_arr spec0 launch0.win.arr_inj c _ _ 5))

theorem tail_zeros (dats : (p : Fin 1) → (c : Dev nD) → Dat τ (Elt F) Unit ℕ (UR sig nD τ) ℕ (cfgs p) c) (c : Dev nD) :
    Pipeline.afterTail₀ cfgs dats 0 (V0 m) [hostOps1] c main_v8 = asBytes (tokensFirst ((dats 0 c).arrAt 6 cfg0.N)) :=
  (after_zeros _).trans (congrArg (fun x => asBytes (tokensFirst x)) (Pipeline.withArrays_arr spec0 launch0.win.arr_inj c _ _ 6))

/-- A statistic with the tokens first, at an element. -/
theorem tokensFirst_apply {α : Type} (x : S6x37x4x1536.Idx → α) (b : Fin 6) (p : Fin 1536) (g : Fin 148) :
    tokensFirst x (ValueIdx.ix3 b p g) = x (ValueIdx.ix4 b (⟨g.val / 4, by omega⟩ : Fin 37) (⟨g.val % 4, by omega⟩ : Fin 4) p) := by
  refine (transpose_apply [0, 2, 1] _ _ (ValueIdx.ix3 b p g) (ValueIdx.ix3 b g p) fun a => ?_).trans (shapeCast_apply _ _ _ _ ?_)
  · match a with
    | ⟨0, _⟩ => rfl
    | ⟨1, _⟩ => rfl
    | ⟨2, _⟩ => rfl
  · rw [Shape.rowMajor_val_four, Shape.rowMajor_val_three]
    show ((b.val * 37 + g.val / 4) * 4 + g.val % 4) * 1536 + p.val = (b.val * 148 + g.val) * 1536 + p.val
    omega

end Cert.GateUp

end
-- ==== Proof.RefSide.lean ====
/-
  THE REFERENCE, READ AT AN INDEX: its result at `(b, p, n)` is the gated product of two columns, the gate's (branch 0 of
  the packed weights and scales) and the up's (branch 1), both of row `(b, p)` of the activations. Its operations are read
  one after the other by the generated `_apply` lemmas; what is proved here is where the chain of layout operations reads.
-/
module

public import proofs.«01_k».proof.Proof.Maths
public import proofs.«01_k».proof.Proof.Gen.ReferenceIdeal.Read

@[expose] public section

noncomputable section

namespace Cert.GateUp

open Idealize.ShloMosaic Idealize.ShloMosaic.ValueIdx Cert.ReferenceIdeal Cert.ReferenceIdeal.Gen Cert.ReferenceIdeal.Read

/-- The activations: `[6, 1536, 3584]`. -/
abbrev Acts := (⟨S6x1536x3584, .bf16⟩ : BufTy).Contents (Elt Ideal)
/-- The packed weights, two 4-bit fields a byte: `[1792, 2, 18944]`, the branch in the middle. -/
abbrev Packed := (⟨S1792x2x18944, .i8⟩ : BufTy).Contents (Elt Ideal)
/-- The scales of the weights' groups of 128 channels: `[28, 2, 18944]`. -/
abbrev Scales := (⟨S28x2x18944, .f32⟩ : BufTy).Contents (Elt Ideal)

/-- Row `(b, p)` of the activations times column `n` of branch `j`'s weights. -/
def product (x0 : Acts) (x1 : Packed) (x2 : Scales) (j : Fin 2) (b : Fin 6) (p : Fin 1536) (n : Fin 18944) : EReal :=
  column (fun k => x0 (ix3 b p k)) (fun r => x1 (ix3 r j n)) (fun g => x2 (ix3 g j n))

/-- The even channels of the activations. -/
theorem even_apply (x0 : Acts) (j : S6x1536x1792.Idx) (k : Fin 3584) (hk : k.val = 2 * (j 2).val) :
    val_main_v2 (F := Ideal) x0 j = x0 (ix3 (j 0) (j 1) k) := by
  have h0 : (j 0).val < 6 := (j 0).isLt
  have h1 : (j 1).val < 1536 := (j 1).isLt
  have h2 : (j 2).val < 1792 := (j 2).isLt
  rw [val_main_v2_apply, val_main_v1_apply, val_main_v0_apply]
  refine congrArg x0 (funext fun a => ?_)
  match a with
  | ⟨0, _⟩ => exact Fin.ext (.trans (b := (j 0).val) (by dsimp; omega) rfl)
  | ⟨1, _⟩ => exact Fin.ext (.trans (b := (j 1).val) (by dsimp; omega) rfl)
  | ⟨2, _⟩ => exact Fin.ext (.trans (b := k.val) (by dsimp; omega) rfl)

/-- The odd channels of the activations. -/
theorem odd_apply (x0 : Acts) (j : S6x1536x1792.Idx) (k : Fin 3584) (hk : k.val = 2 * (j 2).val + 1) :
    val_main_v4 (F := Ideal) x0 j = x0 (ix3 (j 0) (j 1) k) := by
  have h0 : (j 0).val < 6 := (j 0).isLt
  have h1 : (j 1).val < 1536 := (j 1).isLt
  have h2 : (j 2).val < 1792 := (j 2).isLt
  rw [val_main_v4_apply, val_main_v3_apply, val_main_v0_apply]
  refine congrArg x0 (funext fun a => ?_)
  match a with
  | ⟨0, _⟩ => exact Fin.ext (.trans (b := (j 0).val) (by dsimp; omega) rfl)
  | ⟨1, _⟩ => exact Fin.ext (.trans (b := (j 1).val) (by dsimp; omega) rfl)
  | ⟨2, _⟩ => exact Fin.ext (.trans (b := k.val) (by dsimp; omega) rfl)

/-- Where the packed byte of row `r`, column `n` (`j = (r, n)`) is read, in the gate's branch. -/
theorem gate_row (j : S1792x18944.Idx) :
    idx_main_v5 (idx_main_v6 (idx_main_v20 (idx_main_v23 j))) = ix3 (j 0) 0 (j 1) := by
  have h0 : (j 0).val < 1792 := (j 0).isLt
  have h1 : (j 1).val < 18944 := (j 1).isLt
  funext a
  match a with
  | ⟨0, _⟩ => exact Fin.ext (.trans (b := (j 0).val) (by dsimp; omega) rfl)
  | ⟨1, _⟩ => rfl
  | ⟨2, _⟩ => exact Fin.ext (.trans (b := (j 1).val) (by dsimp; omega) rfl)

/-- Where its scale is read: in group `r / 64`. -/
theorem gate_group (j : S1792x18944.Idx) (g : Fin 28) (hg : g.val = (j 0).val / 64) :
    idx_main_v8 (idx_main_v9 (idx_main_v11 (idx_main_v21 (idx_main_v23 j)))) = ix3 g 0 (j 1) := by
  have h0 : (j 0).val < 1792 := (j 0).isLt
  have h1 : (j 1).val < 18944 := (j 1).isLt
  funext a
  match a with
  | ⟨0, _⟩ => exact Fin.ext (.trans (b := g.val) (by dsimp; omega) rfl)
  | ⟨1, _⟩ => rfl
  | ⟨2, _⟩ => exact Fin.ext (.trans (b := (j 1).val) (by dsimp; omega) rfl)

/-- Where the packed byte is read in the up's branch. -/
theorem up_row (j : S1792x18944.Idx) :
    idx_main_v36 (idx_main_v37 (idx_main_v51 (idx_main_v54 j))) = ix3 (j 0) 1 (j 1) := by
  funext a
  match a with
  | ⟨0, _⟩ => exact congrFun (gate_row j) 0
  | ⟨1, _⟩ => rfl
  | ⟨2, _⟩ => exact congrFun (gate_row j) 2

/-- Where its scale is read in the up's branch. -/
theorem up_group (j : S1792x18944.Idx) (g : Fin 28) (hg : g.val = (j 0).val / 64) :
    idx_main_v39 (idx_main_v40 (idx_main_v42 (idx_main_v52 (idx_main_v54 j)))) = ix3 g 1 (j 1) := by
  funext a
  match a with
  | ⟨0, _⟩ => exact congrFun (gate_group j g hg) 0
  | ⟨1, _⟩ => rfl
  | ⟨2, _⟩ => exact congrFun (gate_group j g hg) 2

/-- The gate's weights of the even channels. -/
theorem gate_low_apply (x1 : Packed) (x2 : Scales) (r : Fin 1792) (n : Fin 18944) :
    val_main_v23 (F := Ideal) x1 x2 (ix2 r n)
      = real (field (x1 (ix3 r 0 n)) 0) * x2 (ix3 ⟨r.val / 64, by omega⟩ 0 n) := by
  simp only [
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_c_apply,
    val_main_c_0_apply, val_main_c_1_apply, masked_low_eq_field]
  exact congrArg₂ (· * ·) (congrArg (fun i => real (field (x1 i) 0)) (gate_row (ix2 r n))) (congrArg x2 (gate_group (ix2 r n) _ rfl))

/-- The gate's weights of the odd channels. -/
theorem gate_high_apply (x1 : Packed) (x2 : Scales) (r : Fin 1792) (n : Fin 18944) :
    val_main_v35 (F := Ideal) x1 x2 (ix2 r n)
      = real (field (x1 (ix3 r 0 n)) 1) * x2 (ix3 ⟨r.val / 64, by omega⟩ 0 n) := by
  simp only [
    val_main_v35_apply, val_main_v34_apply, val_main_v33_apply, val_main_v32_apply, val_main_v31_apply,
    val_main_v30_apply, val_main_v29_apply, val_main_v28_apply, val_main_v27_apply, val_main_v26_apply,
    val_main_v25_apply, val_main_v24_apply, val_main_v11_apply, val_main_v10_apply, val_main_v9_apply,
    val_main_v8_apply, val_main_v7_apply, val_main_v6_apply, val_main_v5_apply, val_main_c_2_apply,
    val_main_c_3_apply, val_main_c_4_apply, shifted_high_eq_field]
  exact congrArg₂ (· * ·) (congrArg (fun i => real (field (x1 i) 1)) (gate_row (ix2 r n))) (congrArg x2 (gate_group (ix2 r n) _ rfl))

/-- The up's weights of the even channels. -/
theorem up_low_apply (x1 : Packed) (x2 : Scales) (r : Fin 1792) (n : Fin 18944) :
    val_main_v54 (F := Ideal) x1 x2 (ix2 r n)
      = real (field (x1 (ix3 r 1 n)) 0) * x2 (ix3 ⟨r.val / 64, by omega⟩ 1 n) := by
  simp only [
    val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_c_5_apply,
    val_main_c_6_apply, val_main_c_7_apply, masked_low_eq_field]
  exact congrArg₂ (· * ·) (congrArg (fun i => real (field (x1 i) 0)) (up_row (ix2 r n))) (congrArg x2 (up_group (ix2 r n) _ rfl))

/-- The up's weights of the odd channels. -/
theorem up_high_apply (x1 : Packed) (x2 : Scales) (r : Fin 1792) (n : Fin 18944) :
    val_main_v66 (F := Ideal) x1 x2 (ix2 r n)
      = real (field (x1 (ix3 r 1 n)) 1) * x2 (ix3 ⟨r.val / 64, by omega⟩ 1 n) := by
  simp only [
    val_main_v66_apply, val_main_v65_apply, val_main_v64_apply, val_main_v63_apply, val_main_v62_apply,
    val_main_v61_apply, val_main_v60_apply, val_main_v59_apply, val_main_v58_apply, val_main_v57_apply,
    val_main_v56_apply, val_main_v55_apply, val_main_v42_apply, val_main_v41_apply, val_main_v40_apply,
    val_main_v39_apply, val_main_v38_apply, val_main_v37_apply, val_main_v36_apply, val_main_c_8_apply,
    val_main_c_9_apply, val_main_c_10_apply, shifted_high_eq_field]
  exact congrArg₂ (· * ·) (congrArg (fun i => real (field (x1 i) 1)) (up_row (ix2 r n))) (congrArg x2 (up_group (ix2 r n) _ rfl))

/-- The gate's product: its even channels' sum plus its odd channels' sum. -/
theorem gate_apply (x0 : Acts) (x1 : Packed) (x2 : Scales) (b : Fin 6) (p : Fin 1536) (n : Fin 18944) :
    val_main_v69 (F := Ideal) x0 x1 x2 (ix3 b p n) = product x0 x1 x2 0 b p n := by
  rw [val_main_v69_apply, val_main_v67_apply, val_main_v68_apply, product, column_eq]
  refine congrArg₂ (· + ·) (Finset.sum_congr rfl fun k _ => ?_) (Finset.sum_congr rfl fun k _ => ?_)
  · exact congrArg₂ (· * ·) (even_apply x0 (ix3 b p k) _ rfl) (gate_low_apply x1 x2 k n)
  · exact congrArg₂ (· * ·) (odd_apply x0 (ix3 b p k) _ rfl) (gate_high_apply x1 x2 k n)

/-- The up's product, likewise. -/
theorem up_apply (x0 : Acts) (x1 : Packed) (x2 : Scales) (b : Fin 6) (p : Fin 1536) (n : Fin 18944) :
    val_main_v72 (F := Ideal) x0 x1 x2 (ix3 b p n) = product x0 x1 x2 1 b p n := by
  rw [val_main_v72_apply, val_main_v70_apply, val_main_v71_apply, product, column_eq]
  refine congrArg₂ (· + ·) (Finset.sum_congr rfl fun k _ => ?_) (Finset.sum_congr rfl fun k _ => ?_)
  · exact congrArg₂ (· * ·) (even_apply x0 (ix3 b p k) _ rfl) (up_low_apply x1 x2 k n)
  · exact congrArg₂ (· * ·) (odd_apply x0 (ix3 b p k) _ rfl) (up_high_apply x1 x2 k n)

/-- The reference's result: the gated product of the two. -/
theorem reference_apply (x0 : Acts) (x1 : Packed) (x2 : Scales) (b : Fin 6) (p : Fin 1536) (n : Fin 18944) :
    val_main_v75 (F := Ideal) x0 x1 x2 (ix3 b p n) = gated (product x0 x1 x2 0 b p n) (product x0 x1 x2 1 b p n) := by
  rw [val_main_v75_apply, val_main_v74_apply, val_main_v73_apply, val_main_call4_v5_apply, val_main_call4_v4_apply,
    val_main_call4_v3_apply, val_main_call4_v2_apply, val_main_call4_v1_apply, val_main_call4_v0_apply, gate_apply, up_apply]
  rfl

end Cert.GateUp

end
-- ==== Proof.Array.lean ====
/-
  THE KERNEL'S RESULT. Grid point `(b, n)` takes batch `b` of the activations and columns `512 n ..` of the weights, and
  writes the same batch and columns of the result. So the result array holds the gated product of the two whole products.
-/
module

public import proofs.«01_k».proof.Proof.Block
public import proofs.«01_k».proof.Proof.RefSide
public import Idealize.ShloMosaic.Lib.Pipeline.ValueKit
public import Idealize.ShloMosaic.Lib.Pipeline.Covers
public import Idealize.ShloMosaic.Lib.Claim

@[expose] public section

noncomputable section

namespace Cert.GateUp

open Idealize.ShloMosaic Idealize.ShloMosaic.TcCoe Idealize.SL.Sem
open Cert.KernelIdeal Cert.KernelIdeal.Gen

/-- A grid coordinate as a 32-bit word is itself. -/
theorem word_toNat {n : Nat} (h : n < 4294967296) : (BitVec.ofNat 32 n).toNat = n :=
  (BitVec.toNat_ofNat n 32).trans (Nat.mod_eq_of_lt h)

/-- Where the windows' blocks sit, by the point's batch and column coordinates. -/
theorem index0 (t : Fin cfg0.N) : win0_0.index t = ![(grid0.coords t 0).val, 0, 0] := by
  have h0 : (grid0.coords t 0).val < 6 := (grid0.coords t 0).isLt
  show cc0_transform_0 (grid0.coords t) = _
  unfold cc0_transform_0
  dsimp only
  rw [word_toNat (n := (grid0.coords t 0).val) (by omega)]; rfl

theorem index1 (t : Fin cfg0.N) : win0_1.index t = ![0, 0, (grid0.coords t 1).val] := by
  have h1 : (grid0.coords t 1).val < 37 := (grid0.coords t 1).isLt
  show cc0_transform_1 (grid0.coords t) = _
  unfold cc0_transform_1
  dsimp only
  rw [word_toNat (n := (grid0.coords t 1).val) (by omega)]; rfl

theorem index2 (t : Fin cfg0.N) : win0_2.index t = ![0, 0, (grid0.coords t 1).val] := index1 t

theorem index3 (i : grid0.Coords) : cc0_transform_3 i = ![(i 0).val, 0, (i 1).val] := by
  have h0 : (i 0).val < 6 := (i 0).isLt
  have h1 : (i 1).val < 37 := (i 1).isLt
  unfold cc0_transform_3
  dsimp only
  rw [word_toNat (n := (i 0).val) (by omega), word_toNat (n := (i 1).val) (by omega)]; rfl

variable (m : (ℓ : Loc nD τ sig) → Buf (Elt Ideal) ℓ)

/-- The block of activations at a point. -/
theorem acts_apply (c : Dev nD) (t : Fin cfg0.N) (p : Fin 1536) (k : Fin 3584) :
    iblk m c 0 t (ValueIdx.ix3 0 p k) = m ((c : Thread nD τ).loc main_arg0) (ValueIdx.ix3 (grid0.coords t 0) p k) := by
  blk_ext [iblk, V, index0 t]

/-- The block of packed weights at a point: the host's transpose puts the branch first. -/
theorem packed_apply (c : Dev nD) (t : Fin cfg0.N) (j : Fin 2) (r : Fin 1792) (n : Fin 512) (N : Fin 18944)
    (hN : N.val = 512 * (grid0.coords t 1).val + n.val) :
    iblk m c 1 t (ValueIdx.ix3 j r n) = m ((c : Thread nD τ).loc main_arg1) (ValueIdx.ix3 r j N) := by
  have h : V m c main_v0 = transpose S2x1792x18944 [1, 0, 2] (m ((c : Thread nD τ).loc main_arg1)) transposes_S1792x2x18944_S2x1792x18944_1_0_2 := by
    entry_read; rfl
  refine Eq.trans (b := V m c main_v0 (ValueIdx.ix3 j r N)) ?_ ?_
  · blk_ext [iblk, index1 t]
    show (grid0.coords t 1).val * 512 + n.val = N.val; omega
  · rw [h]; blk_ext [transpose] <;> rfl

/-- The block of scales at a point, likewise. -/
theorem scales_apply (c : Dev nD) (t : Fin cfg0.N) (j : Fin 2) (g : Fin 28) (n : Fin 512) (N : Fin 18944)
    (hN : N.val = 512 * (grid0.coords t 1).val + n.val) :
    iblk m c 2 t (ValueIdx.ix3 j g n) = m ((c : Thread nD τ).loc main_arg2) (ValueIdx.ix3 g j N) := by
  have h : V m c main_v1 = transpose S2x28x18944 [1, 0, 2] (m ((c : Thread nD τ).loc main_arg2)) transposes_S28x2x18944_S2x28x18944_1_0_2 := by
    entry_read; rfl
  refine Eq.trans (b := V m c main_v1 (ValueIdx.ix3 j g N)) ?_ ?_
  · blk_ext [iblk, index2 t]
    show (grid0.coords t 1).val * 512 + n.val = N.val; omega
  · rw [h]; blk_ext [transpose] <;> rfl

/-- The gated product of the two products of whole arrays. -/
def gatedProducts (x0 : Acts) (x1 : Packed) (x2 : Scales) (j : S6x1536x18944.Idx) : EReal :=
  gated (product x0 x1 x2 0 (j 0) (j 1) (j 2)) (product x0 x1 x2 1 (j 0) (j 1) (j 2))

/-- A product of a point's blocks is the arrays' product at the block's place. -/
theorem blockColumn_eq (c : Dev nD) (t : Fin cfg0.N) (j : Fin 2) (p : Fin 1536) (n : Fin 512) (N : Fin 18944)
    (hN : N.val = 512 * (grid0.coords t 1).val + n.val) :
    blockColumn (iblk m c 0 t) (iblk m c 1 t) (iblk m c 2 t) j p n
      = product (m ((c : Thread nD τ).loc main_arg0)) (m ((c : Thread nD τ).loc main_arg1)) (m ((c : Thread nD τ).loc main_arg2))
          j (grid0.coords t 0) p N := by
  unfold blockColumn product
  rw [funext fun k => acts_apply m c t p k, funext fun r => packed_apply m c t j r n N hN,
    funext fun g => scales_apply m c t j g n N hN]

/-- The point of a batch and a block of columns. -/
def pointAt (b : Fin 6) (n : Fin 37) : grid0.Coords
  | 0 => b
  | 1 => n

/-- The points' blocks fill the result. -/
theorem covers : (cfg0.win 3).Covers :=
  Pipeline.Window.covers_of_indexMap_surj win0_3 rfl (by decide) fun β =>
    ⟨pointAt (β 0) (β 2), fun a => by
      refine (congrFun (index3 (pointAt (β 0) (β 2))) a).trans ?_
      match a with
      | ⟨0, _⟩ => rfl
      | ⟨1, _⟩ => exact (Nat.lt_one_iff.1 (β 1).isLt).symm
      | ⟨2, _⟩ => rfl⟩

/-- The result array after the run. -/
theorem final (c : Dev nD) : (dats m 0 c).arrAt 3 cfg0.N
    = gatedProducts (m ((c : Thread nD τ).loc main_arg0)) (m ((c : Thread nD τ).loc main_arg1)) (m ((c : Thread nD τ).loc main_arg2)) := by
  refine (dats m 0 c).arrAt_eq_of_covers 3 _ covers fun t hf y => ?_
  rw [after0_3]
  blk_simp
  unfold outsAt0
  rw [out_eq]
  have e0 : ((win0_3.blk t).view.emb y) 0 = grid0.coords t 0 := Fin.ext (by
    have h : (y 0).val < 1 := (y 0).isLt
    refine (win0_3.rect_emb_val t y 0).trans ?_
    rw [show win0_3.index t = _ from index3 (grid0.coords t)]
    show (grid0.coords t 0).val * 1 + (y 0).val = (grid0.coords t 0).val; omega)
  have e1 : ((win0_3.blk t).view.emb y) 1 = y 1 := Fin.ext (by
    refine (win0_3.rect_emb_val t y 1).trans ?_
    rw [show win0_3.index t = _ from index3 (grid0.coords t)]
    show 0 * 1536 + (y 1).val = (y 1).val; omega)
  have e2 : (((win0_3.blk t).view.emb y) 2).val = 512 * (grid0.coords t 1).val + (y 2).val := by
    refine (win0_3.rect_emb_val t y 2).trans ?_
    rw [show win0_3.index t = _ from index3 (grid0.coords t)]
    show (grid0.coords t 1).val * 512 + (y 2).val = _; omega
  unfold gatedProducts
  rw [e0, e1]
  exact congrArg₂ gated (blockColumn_eq m c t 0 (y 1) (y 2) _ e2) (blockColumn_eq m c t 1 (y 1) (y 2) _ e2)

end Cert.GateUp

end
-- ==== Proof.ArrayQuant.lean ====
/-
  THE KERNEL'S QUANTISED RESULTS. Grid point `(b, n)` writes the bytes, the scales and the zero points of its block of results;
  the blocks fill the three arrays, which hold those of the gated products' rows.
-/
module

public import proofs.«01_k».proof.Proof.BlockQuant
public import proofs.«01_k».proof.Proof.Tail
public import proofs.«01_k».proof.Proof.Array

@[expose] public section

noncomputable section

namespace Cert.GateUp

open Idealize.ShloMosaic Idealize.ShloMosaic.TcCoe Idealize.SL.Sem
open Cert.KernelIdeal Cert.KernelIdeal.Gen

theorem index4 (i : grid0.Coords) : cc0_transform_4 i = ![(i 0).val, 0, (i 1).val] := index3 i

theorem index5 (i : grid0.Coords) : cc0_transform_5 i = ![(i 0).val, (i 1).val, 0, 0] := by
  have h0 : (i 0).val < 6 := (i 0).isLt
  have h1 : (i 1).val < 37 := (i 1).isLt
  unfold cc0_transform_5
  dsimp only
  rw [word_toNat (n := (i 0).val) (by omega), word_toNat (n := (i 1).val) (by omega)]; rfl

theorem index6 (i : grid0.Coords) : cc0_transform_6 i = ![(i 0).val, (i 1).val, 0, 0] := index5 i

theorem covers4 : (cfg0.win 4).Covers :=
  Pipeline.Window.covers_of_indexMap_surj win0_4 rfl (by decide) fun β =>
    ⟨pointAt (β 0) (β 2), fun a => by
      refine (congrFun (index4 (pointAt (β 0) (β 2))) a).trans ?_
      match a with
      | ⟨0, _⟩ => rfl
      | ⟨1, _⟩ => exact (Nat.lt_one_iff.1 (β 1).isLt).symm
      | ⟨2, _⟩ => rfl⟩

theorem covers5 : (cfg0.win 5).Covers :=
  Pipeline.Window.covers_of_indexMap_surj win0_5 rfl (by decide) fun β =>
    ⟨pointAt (β 0) (β 1), fun a => by
      refine (congrFun (index5 (pointAt (β 0) (β 1))) a).trans ?_
      match a with
      | ⟨0, _⟩ => rfl
      | ⟨1, _⟩ => rfl
      | ⟨2, _⟩ => exact (Nat.lt_one_iff.1 (β 2).isLt).symm
      | ⟨3, _⟩ => exact (Nat.lt_one_iff.1 (β 3).isLt).symm⟩

theorem covers6 : (cfg0.win 6).Covers :=
  Pipeline.Window.covers_of_indexMap_surj win0_6 rfl (by decide) fun β =>
    ⟨pointAt (β 0) (β 1), fun a => by
      refine (congrFun (index6 (pointAt (β 0) (β 1))) a).trans ?_
      match a with
      | ⟨0, _⟩ => rfl
      | ⟨1, _⟩ => rfl
      | ⟨2, _⟩ => exact (Nat.lt_one_iff.1 (β 2).isLt).symm
      | ⟨3, _⟩ => exact (Nat.lt_one_iff.1 (β 3).isLt).symm⟩

/-- A row of the gated products. -/
def productRow (x0 : Acts) (x1 : Packed) (x2 : Scales) (b : Fin 6) (p : Fin 1536) (n : Fin 18944) : EReal :=
  gatedProducts x0 x1 x2 (ValueIdx.ix3 b p n)

/-- The bytes of all rows. -/
def rowBytes (x0 : Acts) (x1 : Packed) (x2 : Scales) (j : S6x1536x9472.Idx) : BitVec 8 :=
  rowByte (productRow x0 x1 x2 (j 0) (j 1)) (j 2).val (by have : (j 2).val < 9472 := (j 2).isLt; omega)

/-- The scales of all groups. -/
def groupScales (x0 : Acts) (x1 : Packed) (x2 : Scales) (j : S6x37x4x1536.Idx) : EReal :=
  scaleOf (groupOf (productRow x0 x1 x2 (j 0) (j 3)) (4 * (j 1).val + (j 2).val)
    (by have : (j 1).val < 37 := (j 1).isLt; have : (j 2).val < 4 := (j 2).isLt; omega))

/-- The zero points of all groups. -/
def groupZeros (x0 : Acts) (x1 : Packed) (x2 : Scales) (j : S6x37x4x1536.Idx) : EReal :=
  zeroOf (groupOf (productRow x0 x1 x2 (j 0) (j 3)) (4 * (j 1).val + (j 2).val)
    (by have : (j 1).val < 37 := (j 1).isLt; have : (j 2).val < 4 := (j 2).isLt; omega))

variable (m : (ℓ : Loc nD τ sig) → Buf (Elt Ideal) ℓ)

/-- A row of a point's block is a part of a row of the gated products. -/
theorem blockRow_eq (c : Dev nD) (t : Fin cfg0.N) (p : Fin 1536) (n : Fin 512) (N : Fin 18944)
    (hN : N.val = 512 * (grid0.coords t 1).val + n.val) :
    blockRow (iblk m c 0 t) (iblk m c 1 t) (iblk m c 2 t) p n
      = productRow (m ((c : Thread nD τ).loc main_arg0)) (m ((c : Thread nD τ).loc main_arg1)) (m ((c : Thread nD τ).loc main_arg2))
          (grid0.coords t 0) p N :=
  congrArg₂ gated (blockColumn_eq m c t 0 p n N hN) (blockColumn_eq m c t 1 p n N hN)

/-- A group of a point's block is a group of the gated products. -/
theorem blockGroup_eq (c : Dev nD) (t : Fin cfg0.N) (p : Fin 1536) (g : Nat) (hg : 128 * g + 128 ≤ 512) (G : Nat)
    (hG : 128 * G + 128 ≤ 18944) (e : G = 4 * (grid0.coords t 1).val + g) :
    groupOf (blockRow (iblk m c 0 t) (iblk m c 1 t) (iblk m c 2 t) p) g hg
      = groupOf (productRow (m ((c : Thread nD τ).loc main_arg0)) (m ((c : Thread nD τ).loc main_arg1))
          (m ((c : Thread nD τ).loc main_arg2)) (grid0.coords t 0) p) G hG :=
  funext fun k => blockRow_eq m c t p _ _ (by dsimp; omega)

/-- A byte of a point's block is a byte of the gated products. -/
theorem blockByte_eq (c : Dev nD) (t : Fin cfg0.N) (p : Fin 1536) (l : Nat) (hl : 128 * (l / 64) + 128 ≤ 512) (L : Nat)
    (hL : 128 * (L / 64) + 128 ≤ 18944) (e : L = 256 * (grid0.coords t 1).val + l) :
    rowByte (blockRow (iblk m c 0 t) (iblk m c 1 t) (iblk m c 2 t) p) l hl
      = rowByte (productRow (m ((c : Thread nD τ).loc main_arg0)) (m ((c : Thread nD τ).loc main_arg1))
          (m ((c : Thread nD τ).loc main_arg2)) (grid0.coords t 0) p) L hL := by
  unfold rowByte
  rw [blockGroup_eq m c t p (l / 64) hl (L / 64) hL (by omega),
    blockRow_eq m c t p ⟨2 * l, by omega⟩ ⟨2 * L, by omega⟩ (by dsimp; omega),
    blockRow_eq m c t p ⟨2 * l + 1, by omega⟩ ⟨2 * L + 1, by omega⟩ (by dsimp; omega)]

/-- The array of bytes after the run. -/
theorem final_bytes (c : Dev nD) : (dats m 0 c).arrAt 4 cfg0.N
    = rowBytes (m ((c : Thread nD τ).loc main_arg0)) (m ((c : Thread nD τ).loc main_arg1)) (m ((c : Thread nD τ).loc main_arg2)) := by
  refine (dats m 0 c).arrAt_eq_of_covers 4 _ covers4 fun t hf y => ?_
  rw [after0_4]
  blk_simp
  unfold outsAt0
  rw [out_bytes]
  have e0 : ((win0_4.blk t).view.emb y) 0 = grid0.coords t 0 := Fin.ext (by
    have h : (y 0).val < 1 := (y 0).isLt
    refine (win0_4.rect_emb_val t y 0).trans ?_
    rw [show win0_4.index t = _ from index4 (grid0.coords t)]
    show (grid0.coords t 0).val * 1 + (y 0).val = (grid0.coords t 0).val; omega)
  have e1 : ((win0_4.blk t).view.emb y) 1 = y 1 := Fin.ext (by
    refine (win0_4.rect_emb_val t y 1).trans ?_
    rw [show win0_4.index t = _ from index4 (grid0.coords t)]
    show 0 * 1536 + (y 1).val = (y 1).val; omega)
  have e2 : (((win0_4.blk t).view.emb y) 2).val = 256 * (grid0.coords t 1).val + (y 2).val := by
    refine (win0_4.rect_emb_val t y 2).trans ?_
    rw [show win0_4.index t = _ from index4 (grid0.coords t)]
    show (grid0.coords t 1).val * 256 + (y 2).val = _; omega
  unfold rowBytes
  rw [e0, e1]
  exact blockByte_eq m c t (y 1) (y 2).val _ _ _ e2

/-- The array of scales after the run. -/
theorem final_scales (c : Dev nD) : (dats m 0 c).arrAt 5 cfg0.N
    = groupScales (m ((c : Thread nD τ).loc main_arg0)) (m ((c : Thread nD τ).loc main_arg1)) (m ((c : Thread nD τ).loc main_arg2)) := by
  refine (dats m 0 c).arrAt_eq_of_covers 5 _ covers5 fun t hf y => ?_
  rw [after0_5]
  blk_simp
  unfold outsAt0
  rw [out_scales]
  have e0 : ((win0_5.blk t).view.emb y) 0 = grid0.coords t 0 := Fin.ext (by
    have h : (y 0).val < 1 := (y 0).isLt
    refine (win0_5.rect_emb_val t y 0).trans ?_
    rw [show win0_5.index t = _ from index5 (grid0.coords t)]
    show (grid0.coords t 0).val * 1 + (y 0).val = (grid0.coords t 0).val; omega)
  have e1 : (((win0_5.blk t).view.emb y) 1).val = (grid0.coords t 1).val := by
    have h : (y 1).val < 1 := (y 1).isLt
    refine (win0_5.rect_emb_val t y 1).trans ?_
    rw [show win0_5.index t = _ from index5 (grid0.coords t)]
    show (grid0.coords t 1).val * 1 + (y 1).val = _; omega
  have e2 : (((win0_5.blk t).view.emb y) 2).val = (y 2).val := by
    refine (win0_5.rect_emb_val t y 2).trans ?_
    rw [show win0_5.index t = _ from index5 (grid0.coords t)]
    show 0 * 4 + (y 2).val = _; omega
  have e3 : ((win0_5.blk t).view.emb y) 3 = y 3 := Fin.ext (by
    refine (win0_5.rect_emb_val t y 3).trans ?_
    rw [show win0_5.index t = _ from index5 (grid0.coords t)]
    show 0 * 1536 + (y 3).val = (y 3).val; omega)
  unfold groupScales
  rw [e0, e3]
  exact congrArg scaleOf (blockGroup_eq m c t (y 3) (y 2).val _ _ _ (by rw [e1, e2]))

/-- The array of zero points after the run. -/
theorem final_zeros (c : Dev nD) : (dats m 0 c).arrAt 6 cfg0.N
    = groupZeros (m ((c : Thread nD τ).loc main_arg0)) (m ((c : Thread nD τ).loc main_arg1)) (m ((c : Thread nD τ).loc main_arg2)) := by
  refine (dats m 0 c).arrAt_eq_of_covers 6 _ covers6 fun t hf y => ?_
  rw [after0_6]
  blk_simp
  unfold outsAt0
  rw [out_zeros]
  have e0 : ((win0_6.blk t).view.emb y) 0 = grid0.coords t 0 := Fin.ext (by
    have h : (y 0).val < 1 := (y 0).isLt
    refine (win0_6.rect_emb_val t y 0).trans ?_
    rw [show win0_6.index t = _ from index6 (grid0.coords t)]
    show (grid0.coords t 0).val * 1 + (y 0).val = (grid0.coords t 0).val; omega)
  have e1 : (((win0_6.blk t).view.emb y) 1).val = (grid0.coords t 1).val := by
    have h : (y 1).val < 1 := (y 1).isLt
    refine (win0_6.rect_emb_val t y 1).trans ?_
    rw [show win0_6.index t = _ from index6 (grid0.coords t)]
    show (grid0.coords t 1).val * 1 + (y 1).val = _; omega
  have e2 : (((win0_6.blk t).view.emb y) 2).val = (y 2).val := by
    refine (win0_6.rect_emb_val t y 2).trans ?_
    rw [show win0_6.index t = _ from index6 (grid0.coords t)]
    show 0 * 4 + (y 2).val = _; omega
  have e3 : ((win0_6.blk t).view.emb y) 3 = y 3 := Fin.ext (by
    refine (win0_6.rect_emb_val t y 3).trans ?_
    rw [show win0_6.index t = _ from index6 (grid0.coords t)]
    show 0 * 1536 + (y 3).val = (y 3).val; omega)
  unfold groupZeros
  rw [e0, e3]
  exact congrArg zeroOf (blockGroup_eq m c t (y 3) (y 2).val _ _ _ (by rw [e1, e2]))

/-- The scales of all groups as the host leaves them. -/
def rowScales (x0 : Acts) (x1 : Packed) (x2 : Scales) (j : S6x1536x148.Idx) : EReal :=
  scaleOf (groupOf (productRow x0 x1 x2 (j 0) (j 1)) (j 2).val (by have : (j 2).val < 148 := (j 2).isLt; omega))

/-- The zero points of all groups as the host leaves them. -/
def rowZeros (x0 : Acts) (x1 : Packed) (x2 : Scales) (j : S6x1536x148.Idx) : BitVec 8 :=
  (Ideal.fptosi 32 (zeroOf (groupOf (productRow x0 x1 x2 (j 0) (j 1)) (j 2).val
    (by have : (j 2).val < 148 := (j 2).isLt; omega)))).setWidth 8

theorem rowScales_eq (x0 : Acts) (x1 : Packed) (x2 : Scales) : tokensFirst (groupScales x0 x1 x2) = rowScales x0 x1 x2 :=
  funext fun j => (congrArg _ (ValueIdx.eq_ix3 j)).trans ((tokensFirst_apply _ (j 0) (j 1) (j 2)).trans
    (congrArg scaleOf (groupOf_congr (productRow x0 x1 x2 (j 0) (j 1)) (Nat.div_add_mod (j 2).val 4) _ _)))

theorem rowZeros_eq (x0 : Acts) (x1 : Packed) (x2 : Scales) :
    asBytes (F := Ideal) (tokensFirst (groupZeros x0 x1 x2)) = rowZeros x0 x1 x2 :=
  funext fun j => congrArg (fun z : EReal => (Ideal.fptosi 32 z).setWidth 8)
    ((congrArg (tokensFirst (groupZeros x0 x1 x2)) (ValueIdx.eq_ix3 j)).trans ((tokensFirst_apply _ (j 0) (j 1) (j 2)).trans
      (congrArg zeroOf (groupOf_congr (productRow x0 x1 x2 (j 0) (j 1)) (Nat.div_add_mod (j 2).val 4) _ _))))

/-- After the run: the four results, and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v2_0) = gatedProducts (m ((c : Thread nD τ).loc main_arg0)) (m ((c : Thread nD τ).loc main_arg1)) (m ((c : Thread nD τ).loc main_arg2))
      ∧ r.2.mem ((c : Thread nD τ).loc main_v2_1) = rowBytes (m ((c : Thread nD τ).loc main_arg0)) (m ((c : Thread nD τ).loc main_arg1)) (m ((c : Thread nD τ).loc main_arg2))
      ∧ r.2.mem ((c : Thread nD τ).loc main_v4) = rowScales (m ((c : Thread nD τ).loc main_arg0)) (m ((c : Thread nD τ).loc main_arg1)) (m ((c : Thread nD τ).loc main_arg2))
      ∧ r.2.mem ((c : Thread nD τ).loc main_v8) = rowZeros (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final m c), ((h c).1 4).trans (final_bytes m c),
      ((h c).2 main_v4 (Pipeline.mem_restRefs_of main_v4 (by decide) (by decide))).trans ((tail_scales m (dats m) c).trans
        ((congrArg tokensFirst (final_scales m c)).trans (rowScales_eq _ _ _))),
      ((h c).2 main_v8 (Pipeline.mem_restRefs_of main_v8 (by decide) (by decide))).trans ((tail_zeros m (dats m) c).trans
        ((congrArg (fun x => asBytes (F := Ideal) (tokensFirst x)) (final_zeros m c)).trans (rowZeros_eq _ _ _))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.GateUp

end
-- ==== Proof.RefQuant.lean ====
/-
  THE REFERENCE'S RESULT QUANTISED, read at an index: the scale and the zero point of each group of 128 numbers of a row of the
  result, and the byte of each pair of neighbouring codes.
-/
module

public import proofs.«01_k».proof.Proof.Groups
public import proofs.«01_k».proof.Proof.Gen.ReferenceIdeal.Read

@[expose] public section

noncomputable section

namespace Cert.GateUp

open Idealize.ShloMosaic Idealize.ShloMosaic.ValueIdx Cert.ReferenceIdeal Cert.ReferenceIdeal.Gen Cert.ReferenceIdeal.Read

variable (x0 : (⟨S6x1536x3584, .bf16⟩ : BufTy).Contents (Elt Ideal)) (x1 : (⟨S1792x2x18944, .i8⟩ : BufTy).Contents (Elt Ideal))
  (x2 : (⟨S28x2x18944, .f32⟩ : BufTy).Contents (Elt Ideal))

/-- Row `(b, p)` of the reference's result. -/
def refRow (b : Fin 6) (p : Fin 1536) (n : Fin 18944) : EReal := val_main_v75 (F := Ideal) x0 x1 x2 (ix3 b p n)

/-- Group `g` of it. -/
def refGroup (b : Fin 6) (p : Fin 1536) (g : Fin 148) : Fin 128 → EReal := groupOf (refRow x0 x1 x2 b p) g.val (by omega)

theorem ref_groups_apply (b : Fin 6) (p : Fin 1536) (g : Fin 148) (k : Fin 128) :
    val_main_v77 (F := Ideal) x0 x1 x2 (ix4 b p g k) = refGroup x0 x1 x2 b p g k := by
  rw [val_main_v77_apply, val_main_v76_apply]
  refine congrArg (val_main_v75 (F := Ideal) x0 x1 x2) (funext fun a => ?_)
  have q0 : (ix4 b p g k 0).val = b.val := rfl; have q1 : (ix4 b p g k 1).val = p.val := rfl; have q2 : (ix4 b p g k 2).val = g.val := rfl; have q3 : (ix4 b p g k 3).val = k.val := rfl
  match a with
  | ⟨0, _⟩ => exact Fin.ext (.trans (b := b.val) (by dsimp; omega) rfl)
  | ⟨1, _⟩ => exact Fin.ext (.trans (b := p.val) (by dsimp; omega) rfl)
  | ⟨2, _⟩ => exact Fin.ext (.trans (b := 128 * g.val + k.val) (by dsimp; omega) rfl)

theorem ref_low (b : Fin 6) (p : Fin 1536) (g : Fin 148) :
    val_main_v80 (F := Ideal) x0 x1 x2 (ix3 b p g) = low (refGroup x0 x1 x2 b p g) := by
  rw [val_main_v80_apply, val_main_v79_apply, val_main_cst_11_apply]
  refine congrArg₂ min ((host_min _ _ _ b p g).trans ?_) Ideal.ofBits_zero_f32
  exact congrArg (Finset.fold min _ · _) (funext fun k => ref_groups_apply x0 x1 x2 b p g k)

theorem ref_high (b : Fin 6) (p : Fin 1536) (g : Fin 148) :
    val_main_v83 (F := Ideal) x0 x1 x2 (ix3 b p g) = high (refGroup x0 x1 x2 b p g) := by
  rw [val_main_v83_apply, val_main_v82_apply, val_main_cst_13_apply]
  refine congrArg₂ max ((host_max _ _ _ b p g).trans ?_) Ideal.ofBits_zero_f32
  exact congrArg (Finset.fold max _ · _) (funext fun k => ref_groups_apply x0 x1 x2 b p g k)

theorem ref_scale (b : Fin 6) (p : Fin 1536) (g : Fin 148) :
    val_main_v88 (F := Ideal) x0 x1 x2 (ix3 b p g) = scaleOf (refGroup x0 x1 x2 b p g) := by
  rw [val_main_v88_apply, val_main_v84_apply, val_main_call5_v1_apply, val_main_call5_v0_apply, val_main_cst_15_apply,
    val_main_v87_apply, val_main_v85_apply, val_main_v86_apply, val_main_cst_14_apply, ref_low, ref_high]
  rfl

theorem ref_zero (b : Fin 6) (p : Fin 1536) (g : Fin 148) :
    val_main_v91 (F := Ideal) x0 x1 x2 (ix3 b p g) = zeroOf (refGroup x0 x1 x2 b p g) := by
  rw [val_main_v91_apply, val_main_v90_apply, val_main_v89_apply, ref_low, ref_scale]
  rfl

theorem ref_code (b : Fin 6) (p : Fin 1536) (g : Fin 148) (k : Fin 128) :
    val_main_v100 (F := Ideal) x0 x1 x2 (ix4 b p g k)
      = Ideal.fptosi 32 (codeOf (refGroup x0 x1 x2 b p g) (refGroup x0 x1 x2 b p g k)) := by
  have e93 : idx_main_v92 (idx_main_v93 (ix4 b p g k)) = ix3 b p g := by funext a; fin_cases a <;> rfl
  have e97 : idx_main_v96 (idx_main_v97 (ix4 b p g k)) = ix3 b p g := by funext a; fin_cases a <;> rfl
  rw [val_main_v100_apply, val_main_v99_apply, val_main_call8_v4_apply, val_main_call8_v3_apply, val_main_c_17_apply,
    val_main_call8_v2_apply, val_main_call8_v1_apply, val_main_call8_v0_apply, val_main_c_16_apply, val_main_v98_apply,
    val_main_v97_apply, val_main_v96_apply, val_main_v95_apply, val_main_v94_apply, val_main_v93_apply, val_main_v92_apply,
    e93, e97, ref_zero, ref_scale, ref_groups_apply, sitofp_fifteen, sitofp_none]
  rfl

/-- Code `n` of a row. -/
theorem ref_code_row (b : Fin 6) (p : Fin 1536) (n : Fin 18944) :
    val_main_v101 (F := Ideal) x0 x1 x2 (ix3 b p n)
      = Ideal.fptosi 32 (codeOf (refGroup x0 x1 x2 b p ⟨n.val / 128, by omega⟩) (refRow x0 x1 x2 b p n)) := by
  have e : idx_main_v101 (ix3 b p n) = ix4 b p ⟨n.val / 128, by omega⟩ ⟨n.val % 128, by omega⟩ := by
    funext a
    have q0 : (ix3 b p n 0).val = b.val := rfl; have q1 : (ix3 b p n 1).val = p.val := rfl; have q2 : (ix3 b p n 2).val = n.val := rfl
    match a with
    | ⟨0, _⟩ => exact Fin.ext (.trans (b := b.val) (by dsimp; omega) rfl)
    | ⟨1, _⟩ => exact Fin.ext (.trans (b := p.val) (by dsimp; omega) rfl)
    | ⟨2, _⟩ => exact Fin.ext (.trans (b := n.val / 128) (by dsimp; omega) rfl)
    | ⟨3, _⟩ => exact Fin.ext (.trans (b := n.val % 128) (by dsimp; omega) rfl)
  rw [val_main_v101_apply, e, ref_code]
  refine congrArg (fun y => Ideal.fptosi 32 (codeOf _ y)) (congrArg (refRow x0 x1 x2 b p) (Fin.ext ?_))
  show 128 * (n.val / 128) + n.val % 128 = n.val; omega

/-- The reference's packed bytes. -/
theorem ref_bytes_apply (b : Fin 6) (p : Fin 1536) (l : Fin 9472) :
    val_main_v107 (F := Ideal) x0 x1 x2 (ix3 b p l) = rowByte (refRow x0 x1 x2 b p) l.val (by omega) := by
  have e0 : val_main_v102 (F := Ideal) x0 x1 x2 (ix3 b p l) = val_main_v101 (F := Ideal) x0 x1 x2 (ix3 b p ⟨2 * l.val, by omega⟩) := by
    refine congrArg (val_main_v101 (F := Ideal) x0 x1 x2) (funext fun a => ?_)
    match a with
    | ⟨0, _⟩ => exact Fin.ext (by show 0 + 1 * b.val = b.val; omega)
    | ⟨1, _⟩ => exact Fin.ext (by show 0 + 1 * p.val = p.val; omega)
    | ⟨2, _⟩ => exact Fin.ext (by show 0 + 2 * l.val = 2 * l.val; omega)
  have e1 : val_main_v103 (F := Ideal) x0 x1 x2 (ix3 b p l) = val_main_v101 (F := Ideal) x0 x1 x2 (ix3 b p ⟨2 * l.val + 1, by omega⟩) := by
    refine congrArg (val_main_v101 (F := Ideal) x0 x1 x2) (funext fun a => ?_)
    match a with
    | ⟨0, _⟩ => exact Fin.ext (by show 0 + 1 * b.val = b.val; omega)
    | ⟨1, _⟩ => exact Fin.ext (by show 0 + 1 * p.val = p.val; omega)
    | ⟨2, _⟩ => exact Fin.ext (by show 1 + 2 * l.val = 2 * l.val + 1; omega)
  have g0 : (⟨2 * l.val / 128, by omega⟩ : Fin 148) = ⟨l.val / 64, by omega⟩ := Fin.ext (by show 2 * l.val / 128 = l.val / 64; omega)
  have g1 : (⟨(2 * l.val + 1) / 128, by omega⟩ : Fin 148) = ⟨l.val / 64, by omega⟩ :=
    Fin.ext (by show (2 * l.val + 1) / 128 = l.val / 64; omega)
  rw [val_main_v107_apply, val_main_v106_apply, val_main_v105_apply, val_main_v104_apply, val_main_c_18_apply, e0, e1,
    ref_code_row, ref_code_row, g0, g1]
  rfl

/-- The reference's scales. -/
theorem ref_scales_apply (b : Fin 6) (p : Fin 1536) (g : Fin 148) :
    val_main_v88 (F := Ideal) x0 x1 x2 (ix3 b p g) = scaleOf (groupOf (refRow x0 x1 x2 b p) g.val (by omega)) :=
  ref_scale x0 x1 x2 b p g

/-- The reference's zero points, as bytes. -/
theorem ref_zeros_apply (b : Fin 6) (p : Fin 1536) (g : Fin 148) :
    val_main_v109 (F := Ideal) x0 x1 x2 (ix3 b p g) = (Ideal.fptosi 32 (zeroOf (groupOf (refRow x0 x1 x2 b p) g.val (by omega)))).setWidth 8 := by
  rw [val_main_v109_apply, val_main_v108_apply, ref_zero]
  rfl

end Cert.GateUp

end
-- ==== Proof.Algebra.lean ====
/-
  THE EQUATION. From memories that agree on the arguments, the kernel and the reference both end with the gated product of
  the same two products, its packed codes, its scales and its zero points.
-/
module

public import proofs.«01_k».proof.Defs
public import proofs.«01_k».proof.Proof.ArrayQuant
public import proofs.«01_k».proof.Proof.RefQuant
public import proofs.«01_k».proof.Proof.Gen.ReferenceIdeal.Run
public import proofs.«01_k».proof.Proof.Gen.ReferenceIdeal.Read

@[expose] public section

noncomputable section

namespace Cert.GateUp

open Idealize.ShloMosaic Idealize.ShloMosaic.TcCoe Idealize.SL.Sem

/-- The reference's result as a whole array. -/
theorem reference_eq (x0 : Acts) (x1 : Packed) (x2 : Scales) :
    Cert.ReferenceIdeal.Read.val_main_v75 (F := Ideal) x0 x1 x2 = gatedProducts x0 x1 x2 :=
  funext fun j => (congrArg _ (ValueIdx.eq_ix3 j)).trans (reference_apply x0 x1 x2 (j 0) (j 1) (j 2))

theorem refRow_eq (x0 : Acts) (x1 : Packed) (x2 : Scales) (b : Fin 6) (p : Fin 1536) :
    refRow x0 x1 x2 b p = productRow x0 x1 x2 b p :=
  funext fun n => congrFun (reference_eq x0 x1 x2) (ValueIdx.ix3 b p n)

/-- The reference's packed codes, scales and zero points as whole arrays. -/
theorem reference_bytes (x0 : Acts) (x1 : Packed) (x2 : Scales) :
    Cert.ReferenceIdeal.Read.val_main_v107 (F := Ideal) x0 x1 x2 = rowBytes x0 x1 x2 := by
  funext j
  refine (congrArg _ (ValueIdx.eq_ix3 j)).trans ((ref_bytes_apply x0 x1 x2 (j 0) (j 1) (j 2)).trans ?_)
  exact rowByte_congr (refRow_eq x0 x1 x2 (j 0) (j 1)) rfl _ _

theorem reference_scales (x0 : Acts) (x1 : Packed) (x2 : Scales) :
    Cert.ReferenceIdeal.Read.val_main_v88 (F := Ideal) x0 x1 x2 = rowScales x0 x1 x2 := by
  funext j
  refine (congrArg _ (ValueIdx.eq_ix3 j)).trans ((ref_scales_apply x0 x1 x2 (j 0) (j 1) (j 2)).trans ?_)
  exact congrArg (fun h => scaleOf (groupOf h _ _)) (refRow_eq x0 x1 x2 (j 0) (j 1))

theorem reference_zeros (x0 : Acts) (x1 : Packed) (x2 : Scales) :
    Cert.ReferenceIdeal.Read.val_main_v109 (F := Ideal) x0 x1 x2 = rowZeros x0 x1 x2 := by
  funext j
  refine (congrArg _ (ValueIdx.eq_ix3 j)).trans ((ref_zeros_apply x0 x1 x2 (j 0) (j 1) (j 2)).trans ?_)
  exact congrArg (fun h => (Ideal.fptosi 32 (zeroOf (groupOf h _ _))).setWidth 8) (refRow_eq x0 x1 x2 (j 0) (j 1))

/-- The kernel and the reference compute the same function over the extended reals. -/
theorem algebraic : Cert.algebraic_KernelIdeal_ReferenceIdeal := by
  intro m ρ m' ρ' _ hagree
  refine ⟨fun c => gatedProducts (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => rowBytes (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => rowScales (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => rowZeros (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), run_results m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · exact (Cert.ReferenceIdeal.Read.val_main_v75_eq _).trans ((reference_eq _ _ _).trans
      (congr (congr (congrArg gatedProducts (hagree c).1) (hagree c).2.1) (hagree c).2.2))
  · exact (Cert.ReferenceIdeal.Read.val_main_v107_eq _).trans ((reference_bytes _ _ _).trans
      (congr (congr (congrArg rowBytes (hagree c).1) (hagree c).2.1) (hagree c).2.2))
  · exact (Cert.ReferenceIdeal.Read.val_main_v88_eq _).trans ((reference_scales _ _ _).trans
      (congr (congr (congrArg rowScales (hagree c).1) (hagree c).2.1) (hagree c).2.2))
  · exact (Cert.ReferenceIdeal.Read.val_main_v109_eq _).trans ((reference_zeros _ _ _).trans
      (congr (congr (congrArg rowZeros (hagree c).1) (hagree c).2.1) (hagree c).2.2))

end Cert.GateUp

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebra
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- `Cert.quiescent_ReferenceIdeal`: the host run read at the arguments; it declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- All five claims: the three frames, the kernel over the extended reals, and the equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frame_reference, trivial, GateUp.algebraic⟩

end Cert.Proof

end
